-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S6x4096x256 : Shape := ⟨3, ![6, 4096, 256]⟩
abbrev S6 : Shape := ⟨1, ![6]⟩
abbrev S32x128x256 : Shape := ⟨3, ![32, 128, 256]⟩
abbrev S32 : Shape := ⟨1, ![32]⟩
abbrev S_ : Shape := ⟨0, ![]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .f32⟩
  | .local _ .vmem, ⟨2, _⟩ => ⟨S6x4096x256, .f32⟩
  | .local _ .vmem, ⟨3, _⟩ => ⟨S32x128x256, .f32⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch2 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_off1 (c0_i32_23 : BitVec 32) : Fin 1 → Nat :=
  let c6_i32_24 : BitVec 32 := 6#32
  let v48 : BitVec 32 := Scalar.remsi c0_i32_23 c6_i32_24
  ![v48.toNat]
def k0_off2 (c0_i32_23 : BitVec 32) : Fin 3 → Nat :=
  let c6_i32_24 : BitVec 32 := 6#32
  let v48 : BitVec 32 := Scalar.remsi c0_i32_23 c6_i32_24
  let c0_i32_26 : BitVec 32 := 0#32
  let c0_i32_27 : BitVec 32 := 0#32
  ![v48.toNat, 0, 0]
def k0_off3 (d0 : Dev nD) (c0_i32_21 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v46 : BitVec 32 := Scalar.addi v2 c0_i32_21
  let c32_i32_22 : BitVec 32 := 32#32
  let v47 : BitVec 32 := Scalar.remsi v46 c32_i32_22
  let c256_i32_25 : BitVec 32 := 256#32
  let v49 : BitVec 32 := Scalar.muli v47 c256_i32_25
  ![0, v49.toNat]
def k0_dev1 : Nat :=
  let c0_i32_68 : BitVec 32 := 0#32
  let c0_i32_66 : BitVec 32 := 0#32
  let c1_i32_67 : BitVec 32 := 1#32
  let v101 : BitVec 32 := Scalar.muli c0_i32_66 c1_i32_67
  let v102 : BitVec 32 := Scalar.addi c0_i32_68 v101
  v102.toNat
def k0_dev2 : Nat :=
  let c0_i32_72 : BitVec 32 := 0#32
  let c1_i32_70 : BitVec 32 := 1#32
  let c1_i32_71 : BitVec 32 := 1#32
  let v103 : BitVec 32 := Scalar.muli c1_i32_70 c1_i32_71
  let v104 : BitVec 32 := Scalar.addi c0_i32_72 v103
  v104.toNat
def k0_dev3 : Nat :=
  let c0_i32_76 : BitVec 32 := 0#32
  let c2_i32_74 : BitVec 32 := 2#32
  let c1_i32_75 : BitVec 32 := 1#32
  let v105 : BitVec 32 := Scalar.muli c2_i32_74 c1_i32_75
  let v106 : BitVec 32 := Scalar.addi c0_i32_76 v105
  v106.toNat
def k0_dev4 : Nat :=
  let c0_i32_80 : BitVec 32 := 0#32
  let c3_i32_78 : BitVec 32 := 3#32
  let c1_i32_79 : BitVec 32 := 1#32
  let v107 : BitVec 32 := Scalar.muli c3_i32_78 c1_i32_79
  let v108 : BitVec 32 := Scalar.addi c0_i32_80 v107
  v108.toNat
def k0_dev5 : Nat :=
  let c0_i32_84 : BitVec 32 := 0#32
  let c4_i32_82 : BitVec 32 := 4#32
  let c1_i32_83 : BitVec 32 := 1#32
  let v109 : BitVec 32 := Scalar.muli c4_i32_82 c1_i32_83
  let v110 : BitVec 32 := Scalar.addi c0_i32_84 v109
  v110.toNat
def k0_dev6 : Nat :=
  let c0_i32_88 : BitVec 32 := 0#32
  let c5_i32_86 : BitVec 32 := 5#32
  let c1_i32_87 : BitVec 32 := 1#32
  let v111 : BitVec 32 := Scalar.muli c5_i32_86 c1_i32_87
  let v112 : BitVec 32 := Scalar.addi c0_i32_88 v111
  v112.toNat
def k0_dev7 : Nat :=
  let c0_i32_92 : BitVec 32 := 0#32
  let c6_i32_90 : BitVec 32 := 6#32
  let c1_i32_91 : BitVec 32 := 1#32
  let v113 : BitVec 32 := Scalar.muli c6_i32_90 c1_i32_91
  let v114 : BitVec 32 := Scalar.addi c0_i32_92 v113
  v114.toNat
def k0_dev8 : Nat :=
  let c0_i32_95 : BitVec 32 := 0#32
  let c7_i32 : BitVec 32 := 7#32
  let c1_i32_94 : BitVec 32 := 1#32
  let v115 : BitVec 32 := Scalar.muli c7_i32 c1_i32_94
  let v116 : BitVec 32 := Scalar.addi c0_i32_95 v115
  v116.toNat
def k0_dev9 : Nat :=
  let c0_i32_98 : BitVec 32 := 0#32
  let c8_i32 : BitVec 32 := 8#32
  let c1_i32_97 : BitVec 32 := 1#32
  let v117 : BitVec 32 := Scalar.muli c8_i32 c1_i32_97
  let v118 : BitVec 32 := Scalar.addi c0_i32_98 v117
  v118.toNat
def k0_dev10 : Nat :=
  let c0_i32_101 : BitVec 32 := 0#32
  let c9_i32 : BitVec 32 := 9#32
  let c1_i32_100 : BitVec 32 := 1#32
  let v119 : BitVec 32 := Scalar.muli c9_i32 c1_i32_100
  let v120 : BitVec 32 := Scalar.addi c0_i32_101 v119
  v120.toNat
def k0_dev11 : Nat :=
  let c0_i32_104 : BitVec 32 := 0#32
  let c10_i32 : BitVec 32 := 10#32
  let c1_i32_103 : BitVec 32 := 1#32
  let v121 : BitVec 32 := Scalar.muli c10_i32 c1_i32_103
  let v122 : BitVec 32 := Scalar.addi c0_i32_104 v121
  v122.toNat
def k0_dev12 : Nat :=
  let c0_i32_107 : BitVec 32 := 0#32
  let c11_i32 : BitVec 32 := 11#32
  let c1_i32_106 : BitVec 32 := 1#32
  let v123 : BitVec 32 := Scalar.muli c11_i32 c1_i32_106
  let v124 : BitVec 32 := Scalar.addi c0_i32_107 v123
  v124.toNat
def k0_dev13 : Nat :=
  let c0_i32_110 : BitVec 32 := 0#32
  let c12_i32 : BitVec 32 := 12#32
  let c1_i32_109 : BitVec 32 := 1#32
  let v125 : BitVec 32 := Scalar.muli c12_i32 c1_i32_109
  let v126 : BitVec 32 := Scalar.addi c0_i32_110 v125
  v126.toNat
def k0_dev14 : Nat :=
  let c0_i32_113 : BitVec 32 := 0#32
  let c13_i32 : BitVec 32 := 13#32
  let c1_i32_112 : BitVec 32 := 1#32
  let v127 : BitVec 32 := Scalar.muli c13_i32 c1_i32_112
  let v128 : BitVec 32 := Scalar.addi c0_i32_113 v127
  v128.toNat
def k0_dev15 : Nat :=
  let c0_i32_116 : BitVec 32 := 0#32
  let c14_i32 : BitVec 32 := 14#32
  let c1_i32_115 : BitVec 32 := 1#32
  let v129 : BitVec 32 := Scalar.muli c14_i32 c1_i32_115
  let v130 : BitVec 32 := Scalar.addi c0_i32_116 v129
  v130.toNat
def k0_dev16 : Nat :=
  let c0_i32_119 : BitVec 32 := 0#32
  let c15_i32 : BitVec 32 := 15#32
  let c1_i32_118 : BitVec 32 := 1#32
  let v131 : BitVec 32 := Scalar.muli c15_i32 c1_i32_118
  let v132 : BitVec 32 := Scalar.addi c0_i32_119 v131
  v132.toNat
def k0_dev17 : Nat :=
  let c0_i32_122 : BitVec 32 := 0#32
  let c16_i32 : BitVec 32 := 16#32
  let c1_i32_121 : BitVec 32 := 1#32
  let v133 : BitVec 32 := Scalar.muli c16_i32 c1_i32_121
  let v134 : BitVec 32 := Scalar.addi c0_i32_122 v133
  v134.toNat
def k0_dev18 : Nat :=
  let c0_i32_125 : BitVec 32 := 0#32
  let c17_i32 : BitVec 32 := 17#32
  let c1_i32_124 : BitVec 32 := 1#32
  let v135 : BitVec 32 := Scalar.muli c17_i32 c1_i32_124
  let v136 : BitVec 32 := Scalar.addi c0_i32_125 v135
  v136.toNat
def k0_dev19 : Nat :=
  let c0_i32_128 : BitVec 32 := 0#32
  let c18_i32 : BitVec 32 := 18#32
  let c1_i32_127 : BitVec 32 := 1#32
  let v137 : BitVec 32 := Scalar.muli c18_i32 c1_i32_127
  let v138 : BitVec 32 := Scalar.addi c0_i32_128 v137
  v138.toNat
def k0_dev20 : Nat :=
  let c0_i32_131 : BitVec 32 := 0#32
  let c19_i32 : BitVec 32 := 19#32
  let c1_i32_130 : BitVec 32 := 1#32
  let v139 : BitVec 32 := Scalar.muli c19_i32 c1_i32_130
  let v140 : BitVec 32 := Scalar.addi c0_i32_131 v139
  v140.toNat
def k0_dev21 : Nat :=
  let c0_i32_134 : BitVec 32 := 0#32
  let c20_i32 : BitVec 32 := 20#32
  let c1_i32_133 : BitVec 32 := 1#32
  let v141 : BitVec 32 := Scalar.muli c20_i32 c1_i32_133
  let v142 : BitVec 32 := Scalar.addi c0_i32_134 v141
  v142.toNat
def k0_dev22 : Nat :=
  let c0_i32_137 : BitVec 32 := 0#32
  let c21_i32 : BitVec 32 := 21#32
  let c1_i32_136 : BitVec 32 := 1#32
  let v143 : BitVec 32 := Scalar.muli c21_i32 c1_i32_136
  let v144 : BitVec 32 := Scalar.addi c0_i32_137 v143
  v144.toNat
def k0_dev23 : Nat :=
  let c0_i32_140 : BitVec 32 := 0#32
  let c22_i32 : BitVec 32 := 22#32
  let c1_i32_139 : BitVec 32 := 1#32
  let v145 : BitVec 32 := Scalar.muli c22_i32 c1_i32_139
  let v146 : BitVec 32 := Scalar.addi c0_i32_140 v145
  v146.toNat
def k0_dev24 : Nat :=
  let c0_i32_143 : BitVec 32 := 0#32
  let c23_i32 : BitVec 32 := 23#32
  let c1_i32_142 : BitVec 32 := 1#32
  let v147 : BitVec 32 := Scalar.muli c23_i32 c1_i32_142
  let v148 : BitVec 32 := Scalar.addi c0_i32_143 v147
  v148.toNat
def k0_dev25 : Nat :=
  let c0_i32_146 : BitVec 32 := 0#32
  let c24_i32 : BitVec 32 := 24#32
  let c1_i32_145 : BitVec 32 := 1#32
  let v149 : BitVec 32 := Scalar.muli c24_i32 c1_i32_145
  let v150 : BitVec 32 := Scalar.addi c0_i32_146 v149
  v150.toNat
def k0_dev26 : Nat :=
  let c0_i32_149 : BitVec 32 := 0#32
  let c25_i32 : BitVec 32 := 25#32
  let c1_i32_148 : BitVec 32 := 1#32
  let v151 : BitVec 32 := Scalar.muli c25_i32 c1_i32_148
  let v152 : BitVec 32 := Scalar.addi c0_i32_149 v151
  v152.toNat
def k0_dev27 : Nat :=
  let c0_i32_152 : BitVec 32 := 0#32
  let c26_i32 : BitVec 32 := 26#32
  let c1_i32_151 : BitVec 32 := 1#32
  let v153 : BitVec 32 := Scalar.muli c26_i32 c1_i32_151
  let v154 : BitVec 32 := Scalar.addi c0_i32_152 v153
  v154.toNat
def k0_dev28 : Nat :=
  let c0_i32_155 : BitVec 32 := 0#32
  let c27_i32 : BitVec 32 := 27#32
  let c1_i32_154 : BitVec 32 := 1#32
  let v155 : BitVec 32 := Scalar.muli c27_i32 c1_i32_154
  let v156 : BitVec 32 := Scalar.addi c0_i32_155 v155
  v156.toNat
def k0_dev29 : Nat :=
  let c0_i32_158 : BitVec 32 := 0#32
  let c28_i32 : BitVec 32 := 28#32
  let c1_i32_157 : BitVec 32 := 1#32
  let v157 : BitVec 32 := Scalar.muli c28_i32 c1_i32_157
  let v158 : BitVec 32 := Scalar.addi c0_i32_158 v157
  v158.toNat
def k0_dev30 : Nat :=
  let c0_i32_161 : BitVec 32 := 0#32
  let c29_i32 : BitVec 32 := 29#32
  let c1_i32_160 : BitVec 32 := 1#32
  let v159 : BitVec 32 := Scalar.muli c29_i32 c1_i32_160
  let v160 : BitVec 32 := Scalar.addi c0_i32_161 v159
  v160.toNat
def k0_dev31 : Nat :=
  let c0_i32_164 : BitVec 32 := 0#32
  let c30_i32 : BitVec 32 := 30#32
  let c1_i32_163 : BitVec 32 := 1#32
  let v161 : BitVec 32 := Scalar.muli c30_i32 c1_i32_163
  let v162 : BitVec 32 := Scalar.addi c0_i32_164 v161
  v162.toNat
def k0_dev32 : Nat :=
  let c0_i32_168 : BitVec 32 := 0#32
  let c31_i32_166 : BitVec 32 := 31#32
  let c1_i32_167 : BitVec 32 := 1#32
  let v163 : BitVec 32 := Scalar.muli c31_i32_166 c1_i32_167
  let v164 : BitVec 32 := Scalar.addi c0_i32_168 v163
  v164.toNat
def k0_off4 (i : grid0.Coords) : Fin 1 → Nat :=
  let arg0 : BitVec 32 := BitVec.ofNat 32 (i 0).val
  let c6_i32 : BitVec 32 := 6#32
  let v13 : BitVec 32 := Scalar.remsi arg0 c6_i32
  ![v13.toNat]
def k0_off5 (i : grid0.Coords) : Fin 3 → Nat :=
  let arg0 : BitVec 32 := BitVec.ofNat 32 (i 0).val
  let c6_i32 : BitVec 32 := 6#32
  let v13 : BitVec 32 := Scalar.remsi arg0 c6_i32
  let c0_i32_4 : BitVec 32 := 0#32
  let c0_i32_5 : BitVec 32 := 0#32
  ![v13.toNat, 0, 0]
def k0_off6 (i : grid0.Coords) (d0 : Dev nD) : Fin 2 → Nat :=
  let c0_i32_6 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let arg0 : BitVec 32 := BitVec.ofNat 32 (i 0).val
  let v11 : BitVec 32 := Scalar.addi v2 arg0
  let c32_i32_3 : BitVec 32 := 32#32
  let v12 : BitVec 32 := Scalar.remsi v11 c32_i32_3
  let c256_i32 : BitVec 32 := 256#32
  let v14 : BitVec 32 := Scalar.muli v12 c256_i32
  ![0, v14.toNat]
def k0_off7 (i : grid0.Coords) : Fin 3 → Nat :=
  let arg0 : BitVec 32 := BitVec.ofNat 32 (i 0).val
  let c6_i32_9 : BitVec 32 := 6#32
  let v23 : BitVec 32 := Scalar.remsi arg0 c6_i32_9
  let v24 : Index := Scalar.indexCast v23
  let c0_10 : Index := 0#32
  let c0_11 : Index := 0#32
  ![v24.toNat, 0, 0]
def k0_cond2 (i : grid0.Coords) : BitVec 1 :=
  let arg0 : BitVec 32 := BitVec.ofNat 32 (i 0).val
  let c0_i32_13 : BitVec 32 := 0#32
  let v33 : BitVec 1 := Scalar.cmpi .eq arg0 c0_i32_13
  let v34 : BitVec 32 := Scalar.extui v33
  let c0_i32_14 : BitVec 32 := 0#32
  let v35 : BitVec 1 := Scalar.cmpi .ne v34 c0_i32_14
  v35

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v46 : BitVec 32 := Scalar.muli v2 c128_i32
  let v47 : Index := Scalar.indexCast v46
  let c0_21 : Index := 0#32
  ![v47.toNat, 0]
def k0_cond3 (i : grid0.Coords) : BitVec 1 :=
  let arg0 : BitVec 32 := BitVec.ofNat 32 (i 0).val
  let c0_i32_15 : BitVec 32 := 0#32
  let v36 : BitVec 1 := Scalar.cmpi .ne arg0 c0_i32_15
  let v37 : BitVec 32 := Scalar.extui v36
  let c0_i32_16 : BitVec 32 := 0#32
  let v38 : BitVec 1 := Scalar.cmpi .ne v37 c0_i32_16
  v38

def k0_off9 (i : grid0.Coords) : Fin 3 → Nat :=
  let arg0 : BitVec 32 := BitVec.ofNat 32 (i 0).val
  let v46 : Index := Scalar.indexCast arg0
  let c0_21 : Index := 0#32
  let c0_22 : Index := 0#32
  ![v46.toNat, 0, 0]
def k0_off10 (i : grid0.Coords) : Fin 1 → Nat :=
  let arg0 : BitVec 32 := BitVec.ofNat 32 (i 0).val
  ![arg0.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v50 : BitVec 32 := Scalar.muli v2 c128_i32
  let c0_i32_25 : BitVec 32 := 0#32
  ![v50.toNat, 0]
def k0_off12 (i : grid0.Coords) : Fin 3 → Nat :=
  let arg0 : BitVec 32 := BitVec.ofNat 32 (i 0).val
  let c0_i32_26 : BitVec 32 := 0#32
  let c0_i32_27 : BitVec 32 := 0#32
  ![arg0.toNat, 0, 0]
def k0_dev33 (i : grid0.Coords) (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let arg0 : BitVec 32 := BitVec.ofNat 32 (i 0).val
  let v3 : BitVec 32 := Scalar.addi v2 arg0
  let c32_i32_0 : BitVec 32 := 32#32
  let v4 : BitVec 32 := Scalar.remsi v3 c32_i32_0
  let c1_i32_23 : BitVec 32 := 1#32
  let v51 : BitVec 32 := Scalar.muli v4 c1_i32_23
  let v52 : BitVec 32 := Scalar.addi c0_i32_24 v51
  v52.toNat
def k0_cond4 (i : grid0.Coords) : BitVec 1 :=
  let arg0 : BitVec 32 := BitVec.ofNat 32 (i 0).val
  let c6_i32_17 : BitVec 32 := 6#32
  let v39 : BitVec 32 := Scalar.addi arg0 c6_i32_17
  let c32_i32_18 : BitVec 32 := 32#32
  let v40 : BitVec 1 := Scalar.cmpi .slt v39 c32_i32_18
  let v41 : BitVec 32 := Scalar.extui v40
  let c0_i32_19 : BitVec 32 := 0#32
  let v42 : BitVec 1 := Scalar.cmpi .ne v41 c0_i32_19
  v42

def k0_off13 (i : grid0.Coords) : Fin 1 → Nat :=
  let arg0 : BitVec 32 := BitVec.ofNat 32 (i 0).val
  let c6_i32_21 : BitVec 32 := 6#32
  let v46 : BitVec 32 := Scalar.addi arg0 c6_i32_21
  let c6_i32_23 : BitVec 32 := 6#32
  let v49 : BitVec 32 := Scalar.remsi v46 c6_i32_23
  ![v49.toNat]
def k0_off14 (i : grid0.Coords) : Fin 3 → Nat :=
  let arg0 : BitVec 32 := BitVec.ofNat 32 (i 0).val
  let c6_i32_21 : BitVec 32 := 6#32
  let v46 : BitVec 32 := Scalar.addi arg0 c6_i32_21
  let c6_i32_23 : BitVec 32 := 6#32
  let v49 : BitVec 32 := Scalar.remsi v46 c6_i32_23
  let c0_i32_25 : BitVec 32 := 0#32
  let c0_i32_26 : BitVec 32 := 0#32
  ![v49.toNat, 0, 0]
def k0_off15 (i : grid0.Coords) (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let arg0 : BitVec 32 := BitVec.ofNat 32 (i 0).val
  let c6_i32_21 : BitVec 32 := 6#32
  let v46 : BitVec 32 := Scalar.addi arg0 c6_i32_21
  let v47 : BitVec 32 := Scalar.addi v2 v46
  let c32_i32_22 : BitVec 32 := 32#32
  let v48 : BitVec 32 := Scalar.remsi v47 c32_i32_22
  let c256_i32_24 : BitVec 32 := 256#32
  let v50 : BitVec 32 := Scalar.muli v48 c256_i32_24
  ![0, v50.toNat]
def k0_cond5 (i : grid0.Coords) : BitVec 1 :=
  let arg0 : BitVec 32 := BitVec.ofNat 32 (i 0).val
  let c31_i32 : BitVec 32 := 31#32
  let v43 : BitVec 1 := Scalar.cmpi .eq arg0 c31_i32
  let v44 : BitVec 32 := Scalar.extui v43
  let c0_i32_20 : BitVec 32 := 0#32
  let v45 : BitVec 1 := Scalar.cmpi .ne v44 c0_i32_20
  v45

def k0_off16 (d0 : Dev nD) (c1_i32_21 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v46 : BitVec 32 := Scalar.subi v2 c1_i32_21
  let c32_i32_22 : BitVec 32 := 32#32
  let v47 : BitVec 32 := Scalar.addi v46 c32_i32_22
  let c32_i32_23 : BitVec 32 := 32#32
  let v48 : BitVec 32 := Scalar.remsi v47 c32_i32_23
  let c128_i32 : BitVec 32 := 128#32
  let v49 : BitVec 32 := Scalar.muli v48 c128_i32
  let c0_i32_30 : BitVec 32 := 0#32
  ![v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Same.lean ====
/-
# One program, twice printed

The idealized program is the program itself: no operation was rewritten.
-/
module

public import proofs.«01_k».proof.Defs
public import proofs.«01_k».proof.Proof.Gen.Kernel
public import proofs.«01_k».proof.Proof.Gen.KernelIdeal

@[expose] public section

set_option maxRecDepth 65536

noncomputable section

open Idealize.ShloMosaic Idealize.ShloMosaic.TcCoe Idealize.SL.Sem

namespace Cert.Same

theorem body_eq : Cert.Kernel.cc0_body (F := Bits) = Cert.KernelIdeal.cc0_body (F := Bits) := rfl

theorem main_eq : Cert.Kernel.main (F := Bits) = Cert.KernelIdeal.main (F := Bits) := rfl

theorem table_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ =>
    refine funext fun a => ?_
    obtain ⟨t, s⟩ := a
    exact congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _

theorem defs_eq : Cert.Kernel.defs (F := Bits) = Cert.KernelIdeal.defs (F := Bits) := congrArg (Pipeline.defs _) table_eq

end Cert.Same

end
-- ==== Proof.Sched.lean ====
/-
# The protocol of the fused product and all-to-all

Thirty-two devices each compute thirty-two tiles of their rows of the product and send tile `t` to device `t`. This
module names the buffers' parts, the semaphore cells and what each cell hands over:

* the barrier cell of device `d` has one duty per device `c`: `c` lends `d` the block of `c`'s result rows that `d`
  is to fill, and shows that the receive cell for it is open;
* the receive cell `h` of device `t` has one duty, paid by device `t - h`: the landed tile;
* the send cell `h` of device `c` has one duty: the slab of tiles that the copy read comes back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Rounds
public import Idealize.ShloMosaic.Lib.Transfers
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The rounds of the kernel's own cells: a duty is named by a device. -/
abbrev UX : Type := URounds (GSem nD τ sig) (Fin 32)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The rounds library's part. -/
def ER : Emb UX (MT nD τ sig Unit (Elt F) ℕ UU ℕ) :=
  ((Emb.inl : Emb UX (UX × Counters)).trans (Emb.inr : Emb (UX × Counters) UU)).trans
    (uEmb (nD := nD) (τ := τ) (sig := sig) (Ix := Unit) (Val := Elt F) (Name := ℕ) (U := UU) (Lvl := ℕ)).toEmb
instance ER_landsIn : (ER : Emb UX 𝕄).LandsIn (upEmb : UEmb _ 𝕄) := by unfold ER; infer_instance

/-- The counters of the device's own copies. -/
abbrev EC : UEmb Counters (MT nD τ sig Unit (Elt F) ℕ UU ℕ) := countersEmb

variable (m : (ℓ : Loc nD τ sig) → Buf (Elt F) ℓ)

/-! ## The buffers and their parts -/

abbrev xM : Memref sig .tc .vmem S128x4096 .fp8e4m3 := Memref.whole cc0_stg0_0
abbrev sxM : Memref sig .tc .smem S1 .f32 := Memref.whole cc0_stg1_0
abbrev swM : Memref sig .tc .smem S1 .f32 := Memref.whole cc0_stg2_0
abbrev oM : Memref sig .tc .vmem S4096x256 .f32 := Memref.whole cc0_stg3_0
abbrev wM : Memref sig .tc .hbm S4096x8192 .f32 := Memref.whole main_arg1
abbrev bM : Memref sig .tc .vmem S6x4096x256 .f32 := Memref.whole cc0_scratch0
abbrev yM : Memref sig .tc .vmem S32x128x256 .f32 := Memref.whole cc0_scratch2

theorem rows_inb (r : Fin 32) : ∀ a, (![128 * r.val, 0] : Fin 2 → ℕ) a + S128x256.size a ≤ S4096x256.size a := by
  decide +revert
theorem slab_inb (h : Fin 32) : ∀ a, (![h.val, 0, 0] : Fin 3 → ℕ) a + S1x128x256.size a ≤ S32x128x256.size a := by
  decide +revert
theorem slot_inb (s : Fin 6) : ∀ a, (![s.val, 0, 0] : Fin 3 → ℕ) a + S1x4096x256.size a ≤ S6x4096x256.size a := by
  decide +revert
theorem col_inb (t : Fin 32) : ∀ a, (![0, 256 * t.val] : Fin 2 → ℕ) a + S4096x256.size a ≤ S4096x8192.size a := by
  decide +revert

/-- Rows `128 r … 128 r + 127` of the result. -/
abbrev rowsR (r : Fin 32) : Rect S4096x256 := Rect.unit (s := S4096x256) ![128 * r.val, 0] S128x256.size (rows_inb r)
/-- Slab `h` of the tiles to be sent. -/
abbrev slabR (h : Fin 32) : Rect S32x128x256 := Rect.unit (s := S32x128x256) ![h.val, 0, 0] S1x128x256.size (slab_inb h)
/-- Slot `s` of the ring of weight blocks. -/
abbrev slotR (s : Fin 6) : Rect S6x4096x256 := Rect.unit (s := S6x4096x256) ![s.val, 0, 0] S1x4096x256.size (slot_inb s)
/-- Column block `t` of the weights. -/
abbrev colR (t : Fin 32) : Rect S4096x8192 := Rect.unit (s := S4096x8192) ![0, 256 * t.val] S4096x256.size (col_inb t)

abbrev rowsM (r : Fin 32) : Memref sig .tc .vmem S128x256 .f32 := oM.slice (rowsR r) (fun _ => rfl)
abbrev slabM (h : Fin 32) : Memref sig .tc .vmem S1x128x256 .f32 := yM.slice (slabR h) (fun _ => rfl)
abbrev slabQ (h : Fin 32) : Memref sig .tc .vmem S128x256 .f32 := (slabM h).squeeze S128x256 squeezes_S1x128x256_S128x256
abbrev slotM (s : Fin 6) : Memref sig .tc .vmem S1x4096x256 .f32 := bM.slice (slotR s) (fun _ => rfl)
abbrev slotQ (s : Fin 6) : Memref sig .tc .vmem S4096x256 .f32 := (slotM s).squeeze S4096x256 squeezes_S1x4096x256_S4096x256
abbrev colM (t : Fin 32) : Memref sig .tc .hbm S4096x256 .f32 := wM.slice (colR t) (fun _ => rfl)

/-! ## The contents -/

/-- Device `c`'s rows of `x`, its two scales, and block `t` of its weights. -/
def xv (c : Dev nD) : Vec F S128x4096 .fp8e4m3 := (Memref.whole main_arg0 : Memref sig .tc .hbm _ _).view.read (Elt F) (m ((c : Thread nD τ).loc main_arg0))
def sxv (c : Dev nD) : Vec F S1 .f32 := (Memref.whole main_arg2 : Memref sig .tc .hbm _ _).view.read (Elt F) (m ((c : Thread nD τ).loc main_arg2))
def swv (c : Dev nD) : Vec F S1 .f32 := (Memref.whole main_arg3 : Memref sig .tc .hbm _ _).view.read (Elt F) (m ((c : Thread nD τ).loc main_arg3))
def wv (c : Dev nD) (t : Fin 32) : Vec F S4096x256 .f32 := (colM t).view.read (Elt F) (m ((c : Thread nD τ).loc main_arg1))

/-- The one index of a buffer of one element. -/
def i1 : S1.Idx := fun a => ⟨0, by revert a; decide⟩

/-- The tile that device `c` computes for device `t`. -/
def tile (c : Dev nD) (t : Fin 32) : FVec F S128x256 .f32 :=
  k0_pay2 (sxv m c i1) (swv m c i1) (xv m c) (fun j => wv m c t ((Shape.reshapeEquiv squeezes_S1x4096x256_S4096x256.numel_eq).symm j))

/-- The block of a result row, and the place in it. -/
def rowOf (j : S4096x256.Idx) : Fin 32 := ⟨(j 0).val / 128, Nat.div_lt_of_lt_mul (j 0).isLt⟩
def inRow (j : S4096x256.Idx) : S128x256.Idx
  | ⟨0, _⟩ => ⟨(j 0).val % 128, Nat.mod_lt _ (by decide)⟩
  | ⟨1, _⟩ => j 1

/-- The result of device `c`: rows block `r` is the tile that device `r` computed for it. -/
def outv (c : Dev nD) : Vec F S4096x256 .f32 := fun j => tile m (rowOf j) c (inRow j)

theorem rowOf_emb (r : Fin 32) (j : (rowsR r).shape.Idx) : rowOf ((rowsR r).emb j) = r := by
  have h0 : (j 0).val < 128 := (j 0).isLt
  apply Fin.ext
  show (128 * r.val + 1 * (j 0).val) / 128 = r.val
  omega
theorem inRow_emb (r : Fin 32) (j : (rowsR r).shape.Idx) : inRow ((rowsR r).emb j) = j := by
  have h0 : (j 0).val < 128 := (j 0).isLt
  funext a
  match a with
  | ⟨0, _⟩ => apply Fin.ext; show (128 * r.val + 1 * (j 0).val) % 128 = (j 0).val; omega
  | ⟨1, _⟩ => apply Fin.ext; show 0 + 1 * (j 1).val = (j 1).val; omega
theorem outv_emb (c : Dev nD) (r : Fin 32) : (fun j => outv m c ((rowsR r).emb j)) = tile m r c := by
  funext j; unfold outv; rw [rowOf_emb, inRow_emb]

/-! ## The cells -/

/-- Barrier, send and receive cells of a device. -/
abbrev barC (d : Dev nD) : GSem nD τ sig := ((d : Thread nD τ), .reg barrier0)
def sndQ (h : Fin 32) : DmaSem sig := ⟨10 + h.val, by have := h.isLt; show _ < 74; omega⟩
def rcvQ (h : Fin 32) : DmaSem sig := ⟨42 + h.val, by have := h.isLt; show _ < 74; omega⟩
def wQ (s : Fin 6) : DmaSem sig := ⟨4 + s.val, by have := s.isLt; show _ < 74; omega⟩
abbrev sndC (d : Dev nD) (h : Fin 32) : GSem nD τ sig := ((d : Thread nD τ), .dma (sndQ h))
abbrev rcvC (d : Dev nD) (h : Fin 32) : GSem nD τ sig := ((d : Thread nD τ), .dma (rcvQ h))

/-- The credit of one tile's copy. -/
abbrev N : ℕ := (rowsM 0).view.dmaCredit
theorem N_pos : 0 < N := View.dmaCredit_pos _ (by decide)

/-- The step a transfer cell belongs to. -/
def stepOf (q : DmaSem sig) : Fin 32 := if q.val < 42 then ⟨(q.val - 10) % 32, Nat.mod_lt _ (by decide)⟩ else ⟨(q.val - 42) % 32, Nat.mod_lt _ (by decide)⟩
theorem stepOf_snd (h : Fin 32) : stepOf (sndQ h) = h := by revert h; decide
theorem stepOf_rcv (h : Fin 32) : stepOf (rcvQ h) = h := by revert h; decide

/-! ## What the cells hand over -/

/-- Rows block `r` of the result buffer on device `c`, at any contents. -/
def rowsAny (c : Dev nD) (r : Fin 32) : sProp 𝕄 :=
  iprop(∃ f : Buf (Elt F) ((rowsM r).view.loc (c : Thread nD τ)), (rowsM r).view.loc (c : Thread nD τ) ↦[(rowsM r).view.set]{fullShare} f)
/-- and at the tile that device `r` computed for `c`. -/
def rowsAt (c : Dev nD) (r : Fin 32) : sProp 𝕄 := owns (c : Thread nD τ) (rowsM r) fullShare (tile m r c)
/-- Slab `h` on device `c`, at any contents. -/
def slabAny (c : Dev nD) (h : Fin 32) : sProp 𝕄 :=
  iprop(∃ f : Buf (Elt F) ((slabQ h).view.loc (c : Thread nD τ)), (slabQ h).view.loc (c : Thread nD τ) ↦[(slabQ h).view.set]{fullShare} f)

/-- What `c` hands `d` at the barrier: nothing to itself, else the rows `d` is to fill and the open receive cell. -/
def barPay (d c : Fin 32) : sProp 𝕄 :=
  if c = d then iprop(emp) else iprop(rowsAny (F := F) c d ∗ reached ER (rcvC c (c - d)) 0)

def dmaPay (d : Dev nD) (q : DmaSem sig) : sProp 𝕄 :=
  if q.val < 42 then slabAny d (stepOf q) else rowsAt m d ((d : Fin 32) - stepOf q)

def cellPay (g : GSem nD τ sig) (u : Fin 32) : sProp 𝕄 :=
  match g.2 with
  | .reg _ => barPay g.1.1 u
  | .dma q => dmaPay m g.1.1 q

def cellDuties (s : SemLoc sig) : Finset (Fin 32) :=
  match s with
  | .reg _ => Finset.univ
  | .dma _ => {0}

def cellAmount (s : SemLoc sig) : ℕ :=
  match s with
  | .reg _ => 1
  | .dma _ => N

def sched : Rounds.Schedule (GSem nD τ sig) (Fin 32) 𝕄 where
  duties g r := if r = 0 then cellDuties g.2 else ∅
  unitless _ := False
  amount g _ _ := cellAmount g.2
  payload g _ u := cellPay m g u
  amount_pos g _ _ _ := by
    unfold cellAmount; split
    · exact Nat.one_pos
    · exact N_pos

instance rowsAny_storable (c : Dev nD) (r : Fin 32) : BI.Storable (upEmb : UEmb _ 𝕄) (rowsAny (F := F) c r) := by
  unfold rowsAny; infer_instance
instance rowsAt_storable (c : Dev nD) (r : Fin 32) : BI.Storable (upEmb : UEmb _ 𝕄) (rowsAt m c r) := by
  unfold rowsAt owns; infer_instance
instance slabAny_storable (c : Dev nD) (r : Fin 32) : BI.Storable (upEmb : UEmb _ 𝕄) (slabAny (F := F) c r) := by
  unfold slabAny; infer_instance
instance barPay_storable (d c : Fin 32) : BI.Storable (upEmb : UEmb _ 𝕄) (barPay (F := F) d c) := by
  unfold barPay; split <;> infer_instance
instance sched_storable (g : GSem nD τ sig) (r : ℕ) (u : Fin 32) : BI.Storable (upEmb : UEmb _ 𝕄) ((sched m).payload g r u) := by
  show BI.Storable upEmb (cellPay m g u)
  unfold cellPay dmaPay
  (repeat' split) <;> infer_instance

theorem duties_later (g : GSem nD τ sig) (r : ℕ) (h : 1 ≤ r) : (sched m).duties g r = ∅ := if_neg (by omega)
theorem duties_bar (d : Dev nD) : (sched m).duties (barC d) 0 = Finset.univ := rfl
theorem duties_dma (d : Dev nD) (q : DmaSem sig) : (sched m).duties ((d : Thread nD τ), .dma q) 0 = {0} := rfl
theorem amount_bar (d : Dev nD) (u : Fin 32) : (sched m).amount (barC d) 0 u = 1 := rfl
theorem amount_dma (d : Dev nD) (q : DmaSem sig) (u : Fin 32) : (sched m).amount ((d : Thread nD τ), .dma q) 0 u = N := rfl
theorem expect_bar (d : Dev nD) : (sched m).expect (barC d) 0 = 32 := by
  unfold Schedule.expect Schedule.amountOf; rw [duties_bar]; simp only [amount_bar]; rfl
theorem expect_dma (d : Dev nD) (q : DmaSem sig) : (sched m).expect ((d : Thread nD τ), .dma q) 0 = N := by
  unfold Schedule.expect Schedule.amountOf; rw [duties_dma, Finset.sum_singleton, amount_dma]
theorem payload_bar (d : Dev nD) (u : Fin 32) : (sched m).payload (barC d) 0 u = barPay d u := rfl
theorem payload_snd (d : Dev nD) (h : Fin 32) (u : Fin 32) : (sched m).payload (sndC d h) 0 u = slabAny d h := by
  show dmaPay m d (sndQ h) = _
  unfold dmaPay; rw [if_pos (by have := h.isLt; show 10 + h.val < 42; omega), stepOf_snd]
theorem payload_rcv (d : Dev nD) (h : Fin 32) (u : Fin 32) : (sched m).payload (rcvC d h) 0 u = rowsAt m d ((d : Fin 32) - h) := by
  show dmaPay m d (rcvQ h) = _
  unfold dmaPay; rw [if_neg (by show ¬ (42 + h.val < 42); omega), stepOf_rcv]
theorem rest_snd (d : Dev nD) (h : Fin 32) :
    bigSep ((sched m).duties (sndC d h) 0 \ ∅) (fun u => (sched m).payload (sndC d h) 0 u) = slabAny d h := by
  rw [Finset.sdiff_empty, duties_dma, bigSep_singleton, payload_snd]
theorem rest_rcv (d : Dev nD) (h : Fin 32) :
    bigSep ((sched m).duties (rcvC d h) 0 \ ∅) (fun u => (sched m).payload (rcvC d h) 0 u) = rowsAt m d ((d : Fin 32) - h) := by
  rw [Finset.sdiff_empty, duties_dma, bigSep_singleton, payload_rcv]
theorem rest_bar (d : Dev nD) :
    bigSep ((sched m).duties (barC d) 0 \ ∅) (fun u => (sched m).payload (barC d) 0 u) = bigSep Finset.univ (fun u => barPay (F := F) d u) := by
  rw [Finset.sdiff_empty, duties_bar]; rfl

/-! ## Steps still to come -/

/-- The steps from `n` on. -/
def fromN (n : ℕ) : Finset (Fin 32) := Finset.univ.filter (n ≤ ·.val)
theorem mem_fromN {n : ℕ} {h : Fin 32} : h ∈ fromN n ↔ n ≤ h.val := by simp [fromN]
theorem fromN_zero : fromN 0 = Finset.univ := by ext h; simp [mem_fromN]
theorem fromN_end : fromN 32 = ∅ := by
  ext h; simp [mem_fromN]
theorem fromN_succ (h : Fin 32) : fromN h.val = insert h (fromN (h.val + 1)) := by
  ext x; simp only [mem_fromN, Finset.mem_insert, Fin.ext_iff]; omega
theorem notMem_fromN (h : Fin 32) : h ∉ fromN (h.val + 1) := by rw [mem_fromN]; omega
theorem bigSep_from (h : Fin 32) (Φ : Fin 32 → sProp 𝕄) :
    bigSep (fromN h.val) Φ = iprop(Φ h ∗ bigSep (fromN (h.val + 1)) Φ) := by
  rw [fromN_succ, bigSep_insert (notMem_fromN h)]; rfl
/-- The steps from 1 up to `n`. -/
def uptoN (n : ℕ) : Finset (Fin 32) := Finset.univ.filter fun h => 1 ≤ h.val ∧ h.val < n
theorem mem_uptoN {n : ℕ} {h : Fin 32} : h ∈ uptoN n ↔ 1 ≤ h.val ∧ h.val < n := by simp [uptoN]
theorem uptoN_one : uptoN 1 = ∅ := by ext h; simp [mem_uptoN]; omega
theorem uptoN_end : uptoN 32 = fromN 1 := by
  ext h; simp only [mem_uptoN, mem_fromN]; have := h.isLt; omega
theorem uptoN_succ (h : Fin 32) (h1 : 1 ≤ h.val) : uptoN (h.val + 1) = insert h (uptoN h.val) := by
  ext x; simp only [mem_uptoN, Finset.mem_insert, Fin.ext_iff]; omega
theorem bigSep_upto (h : Fin 32) (h1 : 1 ≤ h.val) (Φ : Fin 32 → sProp 𝕄) :
    bigSep (uptoN (h.val + 1)) Φ = iprop(Φ h ∗ bigSep (uptoN h.val) Φ) := by
  rw [uptoN_succ h h1, bigSep_insert (by rw [mem_uptoN]; omega)]; rfl

/-! ## What a device owes, and the levels -/

/-- The barrier units owed to the devices from `n` on, -/
def owB (n : ℕ) : CellTallies nD τ sig Unit := ∑ d ∈ fromN n, tallyAt (barC d) () 1
/-- and the copies owed from step `n` on. -/
def owR (c : Fin 32) (n : ℕ) : CellTallies nD τ sig Unit := ∑ h ∈ fromN n, tallyAt (rcvC ((c + h : Fin 32) : Dev nD) h) () N
def O₀ (c : Dev nD) : CellTallies nD τ sig Unit := owB 0 + owR c 1

theorem owB_peel (d : Fin 32) : owB d.val = owB (d.val + 1) + tallyAt (barC d) () 1 := by
  unfold owB; rw [fromN_succ, Finset.sum_insert (notMem_fromN d), add_comm]
theorem owR_peel (c h : Fin 32) : owR c h.val = owR c (h.val + 1) + tallyAt (rcvC ((c + h : Fin 32) : Dev nD) h) () N := by
  unfold owR; rw [fromN_succ, Finset.sum_insert (notMem_fromN h), add_comm]
theorem owB_end : owB 32 = 0 := by unfold owB; rw [fromN_end, Finset.sum_empty]
theorem owR_end (c : Fin 32) : owR c 32 = 0 := by unfold owR; rw [fromN_end, Finset.sum_empty]

def L (g : GSem nD τ sig) : Finset Unit := if g.1.2 = .tc then {()} else ∅
def lvS (s : SemLoc sig) : ℕ := match s with
  | .reg _ => 1
  | .dma q => if q.val < 42 then 0 else 2
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem owR_pos {c : Fin 32} {n : ℕ} {g : GSem nD τ sig} {u : Unit} (h : 0 < owR c n g u) : ∃ d h', g = rcvC d h' := by
  obtain ⟨x, _, hx⟩ := Pipeline.sum_pos_exists h
  exact ⟨_, _, (Pipeline.tallyAt_pos hx).1⟩
theorem owB_pos {n : ℕ} {g : GSem nD τ sig} {u : Unit} (h : 0 < owB n g u) : ∃ d, g = barC d := by
  obtain ⟨x, _, hx⟩ := Pipeline.sum_pos_exists h
  exact ⟨_, (Pipeline.tallyAt_pos hx).1⟩

theorem lv_rcv (d : Dev nD) (h : Fin 32) (u : Unit) : lv (rcvC d h) u = 2 := by
  show (if 42 + h.val < 42 then 0 else 2) = 2; rw [if_neg (by omega)]

/-- A wait on a cell of level 0 while copies are owed, -/
theorem mayWait_low (c : Dev nD) (q : DmaSem sig) (hq : q.val < 42) (d : Fin 32) (n : ℕ) :
    (levAts L lv : sProp 𝕄) ⊢ MayWait (c : Thread nD τ) (.dma q) () (owR d n) :=
  Pipeline.mayWait_of_levAts (by rw [L_tc]; exact Finset.mem_singleton_self _) fun g i hg => by
    obtain ⟨d', h', rfl⟩ := owR_pos hg
    refine ⟨by rw [L_tc]; exact Finset.mem_singleton_self _, ?_⟩
    rw [lv_rcv]; show (if q.val < 42 then 0 else 2) < 2; rw [if_pos hq]; decide
/-- or at launch, -/
theorem mayWait_launch (c : Dev nD) (q : DmaSem sig) (hq : q.val < 42) (d : Dev nD) :
    (levAts L lv : sProp 𝕄) ⊢ MayWait (c : Thread nD τ) (.dma q) () (O₀ d) :=
  Pipeline.mayWait_of_levAts (by rw [L_tc]; exact Finset.mem_singleton_self _) fun g i hg => by
    have hl : lv ((c : Thread nD τ), SemLoc.dma q) () = 0 := by show (if q.val < 42 then 0 else 2) = 0; rw [if_pos hq]
    rcases Pipeline.add_pos_cases hg with hg | hg
    · obtain ⟨d', rfl⟩ := owB_pos hg
      exact ⟨by rw [L_tc]; exact Finset.mem_singleton_self _, by rw [hl]; show 0 < 1; decide⟩
    · obtain ⟨d', h', rfl⟩ := owR_pos hg
      exact ⟨by rw [L_tc]; exact Finset.mem_singleton_self _, by rw [hl, lv_rcv]; decide⟩
/-- and the wait on the barrier. -/
theorem mayWait_bar (c : Dev nD) (d : Fin 32) (n : ℕ) :
    (levAts L lv : sProp 𝕄) ⊢ MayWait (c : Thread nD τ) (.reg barrier0) () (owR d n) :=
  Pipeline.mayWait_of_levAts (by rw [L_tc]; exact Finset.mem_singleton_self _) fun g i hg => by
    obtain ⟨d', h', rfl⟩ := owR_pos hg
    refine ⟨by rw [L_tc]; exact Finset.mem_singleton_self _, ?_⟩
    rw [lv_rcv]; show 1 < 2; decide

end Cert.A2A
-- ==== Proof.Steps.lean ====
/-
# One operation at a time

Each lemma here is one operation of the kernel, or one of a written-out run of like operations, over the state it
needs: the copies of weight blocks into the ring, the signals of the barrier, the copy of a tile to a peer, the waits.
Offsets are variables tied to their closed forms by hypotheses, so that a lemma serves every place that the operation
is printed.
-/
module

public import proofs.«01_k».proof.Proof.Sched

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program of a body, at a continuation. -/
abbrev W (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- What the device owes, whatever it has waited for. -/
def owesAny (c : Dev nD) (O : CellTallies nD τ sig Unit) : sProp 𝕄 := iprop(∃ W, owes (c : Thread nD τ) O W)

/-! ## The ring of weight blocks -/

/-- The slot of block `b`, and the column block it holds on device `c`. -/
def slotOf (b : ℕ) : Fin 6 := ⟨b % 6, Nat.mod_lt _ (by decide)⟩
def blkOf (c : Dev nD) (b : ℕ) : Fin 32 := ⟨(c.val + b) % 32, Nat.mod_lt _ (by decide)⟩

def colAt (c : Dev nD) (t : Fin 32) : sProp 𝕄 :=
  iprop((colM t).view.loc (c : Thread nD τ) ↦[(colM t).view.set]{fullShare} (m ((c : Thread nD τ).loc main_arg1)))
def slotAny (c : Dev nD) (s : Fin 6) : sProp 𝕄 :=
  iprop(∃ f : Buf (Elt F) ((slotQ s).view.loc (c : Thread nD τ)), (slotQ s).view.loc (c : Thread nD τ) ↦[(slotQ s).view.set]{fullShare} f)
def slotAt (c : Dev nD) (s : Fin 6) (t : Fin 32) : sProp 𝕄 := owns (c : Thread nD τ) (slotQ s) fullShare (wv m c t)
def slotFree (c : Dev nD) (s : Fin 6) : sProp 𝕄 := iprop(slotAny (F := F) c s ∗ semVal ((c : Thread nD τ), .dma (wQ s)) 0)

/-- The credit of one weight block's copy. -/
abbrev NW : ℕ := (slotQ 0).view.dmaCredit

def wFly (c : Dev nD) (s : Fin 6) (t : Fin 32) : sProp 𝕄 :=
  Flight EC (c : Thread nD τ) (.dma (wQ s)) () NW iprop(slotAt m c s t ∗ colAt m c t)

theorem slotAt_any (c : Dev nD) (s : Fin 6) (t : Fin 32) : slotAt m c s t ⊢ slotAny (F := F) c s := by
  unfold slotAt slotAny owns
  iintro ⟨%f, -, H⟩
  iexists f; iexact H

theorem wQ_eq (s : Fin 6) {off : Fin 1 → ℕ} (h : off = ![s.val]) (inb : ∀ a, off a + S1.size a ≤ S6.size a) :
    ((cc0_scratch1.slice (Rect.unit (s := S6) off S1.size inb)).squeeze S_ squeezes_S1_S_).sem = wQ s := by
  subst h; revert s; decide
theorem sndQ_eq (h : Fin 32) {off : Fin 1 → ℕ} (e : off = ![h.val]) (inb : ∀ a, off a + S1.size a ≤ S32.size a) :
    ((cc0_scratch3.slice (Rect.unit (s := S32) off S1.size inb)).squeeze S_ squeezes_S1_S_).sem = sndQ h := by
  subst e; revert h; decide
theorem rcvQ_eq (h : Fin 32) {off : Fin 1 → ℕ} (e : off = ![h.val]) (inb : ∀ a, off a + S1.size a ≤ S32.size a) :
    ((cc0_scratch4.slice (Rect.unit (s := S32) off S1.size inb)).squeeze S_ squeezes_S1_S_).sem = rcvQ h := by
  subst e; revert h; decide

/-- The start of a copy of block `t` into slot `s`. -/
theorem wp_wStart (c : Dev nD) (s : Fin 6) (t : Fin 32) {o1 : Fin 1 → ℕ} {o2 : Fin 3 → ℕ} {o3 : Fin 2 → ℕ}
    (h1 : o1 = ![s.val]) (h2 : o2 = ![s.val, 0, 0]) (h3 : o3 = ![0, 256 * t.val])
    {i1 : ∀ a, o1 a + S1.size a ≤ S6.size a} {i2 : ∀ a, o2 a + S1x4096x256.size a ≤ S6x4096x256.size a}
    {i3 : ∀ a, o3 a + S4096x256.size a ≤ S4096x8192.size a} {hsrc hdst hsem}
    {k : PUnit → Prog (TpuEff nD τ sig (Elt F) Λ₀ .tc) PUnit} {Q : PUnit → sProp 𝕄} :
    iprop(slotFree (F := F) c s ∗ colAt m c t)
      ⊢ iprop((wFly m c s t -∗ W c (k ⟨⟩) Q)
          -∗ W c (.op (.enqueueDma (wM.slice (Rect.unit (s := S4096x8192) o3 S4096x256.size i3) (fun _ => rfl))
              (.here ((bM.slice (Rect.unit (s := S6x4096x256) o2 S1x4096x256.size i2) (fun _ => rfl)).squeeze S4096x256 squeezes_S1x4096x256_S4096x256))
              (.dma ((cc0_scratch1.slice (Rect.unit (s := S6) o1 S1.size i1)).squeeze S_ squeezes_S1_S_).sem) hsrc hdst hsem) k) Q) := by
  subst h2 h3
  revert hsem
  rw [wQ_eq s h1 i1]
  intro hsem
  unfold slotFree slotAny colAt
  iintro ⟨⟨⟨%f, Hd⟩, Hv⟩, Hs⟩ Hk
  iapply (wp_dmaLocal EC 𝒱₀ (c : Thread nD τ) none (fs := m ((c : Thread nD τ).loc main_arg1)) (fd := f) () NW rfl
    (View.dmaCredit_pos _ (by decide)) (Finset.Subset.refl _)) $$ [Hd Hv Hs]
  · isplitl [Hs]; · iexact Hs
    isplitl [Hd]; · iexact Hd
    iexact Hv
  iintro HF
  iapply Hk
  unfold wFly
  iapply (Flight_mono EC (c : Thread nD τ) ?_) $$ HF
  iintro ⟨Hd, Hs⟩
  isplitl [Hd]
  · unfold slotAt owns
    iexists ((slotQ s).view.write (Elt F) f (wv m c t) Finset.univ)
    isplitr
    · ipureintro; exact View.read_write_univ _ _
    · iexact Hd
  · unfold colAt; iexact Hs

/-- The wait for it. -/
theorem wp_wWait (c : Dev nD) (s : Fin 6) (t : Fin 32) {o1 : Fin 1 → ℕ} {o2 : Fin 3 → ℕ} (h1 : o1 = ![s.val])
    {i1 : ∀ a, o1 a + S1.size a ≤ S6.size a} {i2 : ∀ a, o2 a + S1x4096x256.size a ≤ S6x4096x256.size a}
    {src : Memref sig .tc .hbm S4096x256 .f32} {hsrc hdst} {O : CellTallies nD τ sig Unit}
    (hO : (levAts L lv : sProp 𝕄) ⊢ MayWait (c : Thread nD τ) (.dma (wQ s)) () O)
    {k : PUnit → Prog (TpuEff nD τ sig (Elt F) Λ₀ .tc) PUnit} {Q : PUnit → sProp 𝕄} :
    iprop(wFly m c s t ∗ owesAny c O ∗ levAts L lv)
      ⊢ iprop((iprop(slotAt m c s t ∗ colAt m c t ∗ semVal ((c : Thread nD τ), .dma (wQ s)) 0 ∗ owesAny c O) -∗ W c (k ⟨⟩) Q)
          -∗ W c (.op (.waitDma2 ((cc0_scratch1.slice (Rect.unit (s := S6) o1 S1.size i1)).squeeze S_ squeezes_S1_S_).sem src
              ((bM.slice (Rect.unit (s := S6x4096x256) o2 S1x4096x256.size i2) (fun _ => rfl)).squeeze S4096x256 squeezes_S1x4096x256_S4096x256) hsrc hdst) k) Q) := by
  rw [wQ_eq s h1 i1]
  unfold owesAny wFly
  iintro ⟨HF, ⟨%W', HO⟩, Hl⟩ Hk
  iapply (wp_waitLocalO EC 𝒱₀ (c : Thread nD τ) none (srcw := src) (hsrc := hsrc) (hdst := hdst)
    (dstw := (bM.slice (Rect.unit (s := S6x4096x256) o2 S1x4096x256.size i2) (fun _ => rfl)).squeeze S4096x256 squeezes_S1x4096x256_S4096x256)
    () (N := NW) rfl (O := O) (W := W')) $$ [HF HO Hl]
  · isplitl [HF]; · iexact HF
    isplitl [HO]; · iexact HO
    iapply hO; iexact Hl
  iintro ⟨⟨Hs, Hc⟩, Hv, HO⟩
  iapply Hk
  isplitl [Hs]; · iexact Hs
  isplitl [Hc]; · iexact Hc
  isplitl [Hv]; · iexact Hv
  iexists _; iexact HO

/-! ## The cells' invariants -/

/-- Every barrier cell, open, and every transfer cell that is used. -/
def Ctx (κ : GSem nD τ sig → ℕ) : sProp 𝕄 :=
  iprop((bigSep Finset.univ fun d : Fin 32 => iprop(cellInv ER (sched m) (κ (barC d)) (barC d) ∗ reached ER (barC d) 0))
    ∗ (bigSep Finset.univ fun d : Fin 32 => bigSep (fromN 1) fun h : Fin 32 =>
        iprop(cellInv ER (sched m) (κ (sndC d h)) (sndC d h) ∗ cellInv ER (sched m) (κ (rcvC d h)) (rcvC d h))))
instance Ctx_persistent (κ : GSem nD τ sig → ℕ) : BI.Persistent (Ctx m κ) := by unfold Ctx; infer_instance

theorem Ctx_bar (κ : GSem nD τ sig → ℕ) (d : Fin 32) :
    Ctx m κ ⊢ iprop(cellInv ER (sched m) (κ (barC d)) (barC d) ∗ reached ER (barC d) 0) := by
  unfold Ctx
  iintro ⟨H, -⟩
  iapply (show _ ⊢ _ from BI.bigSep_elim (Φ := fun d : Fin 32 => iprop(cellInv ER (sched m) (κ (barC d)) (barC d) ∗ reached ER (barC d) 0)) (Finset.mem_univ d)); iexact H
theorem Ctx_dma (κ : GSem nD τ sig → ℕ) (d h : Fin 32) (h1 : 1 ≤ h.val) :
    Ctx m κ ⊢ iprop(cellInv ER (sched m) (κ (sndC d h)) (sndC d h) ∗ cellInv ER (sched m) (κ (rcvC d h)) (rcvC d h)) := by
  unfold Ctx
  iintro ⟨-, H⟩
  ihave H' := (show _ ⊢ _ from BI.bigSep_elim (Φ := fun d : Fin 32 => bigSep (fromN 1) fun h : Fin 32 =>
        iprop(cellInv ER (sched m) (κ (sndC d h)) (sndC d h) ∗ cellInv ER (sched m) (κ (rcvC d h)) (rcvC d h))) (Finset.mem_univ d)) $$ H
  iapply (show _ ⊢ _ from BI.bigSep_elim (Φ := fun h : Fin 32 =>
        iprop(cellInv ER (sched m) (κ (sndC d h)) (sndC d h) ∗ cellInv ER (sched m) (κ (rcvC d h)) (rcvC d h))) (mem_fromN.mpr h1)); iexact H'

/-! ## The barrier -/

/-- Before the signal to device `n`: the tokens and the payloads still to give. -/
def SigSt (c : Fin 32) (n : ℕ) : sProp 𝕄 :=
  iprop(owesAny (F := F) c (owB n + owR c 1)
    ∗ bigSep (fromN n) fun d => iprop(dutyTok ER (barC d) 0 c ∗ barPay (F := F) d c))

theorem wp_sig (κ : GSem nD τ sig → ℕ) (c d : Fin 32) {dst : Thread nD τ} (hdst : dst = ((d : Dev nD) : Thread nD τ)) {n : ℤ} (hn : n = 1)
    {q : Sem sig} (hq : q = barrier0)
    {k : PUnit → Prog (TpuEff nD τ sig (Elt F) Λ₀ .tc) PUnit} {Q : PUnit → sProp 𝕄} :
    iprop(Ctx m κ ∗ SigSt (F := F) c d.val)
      ⊢ iprop((SigSt (F := F) c (d.val + 1) -∗ W c (k ⟨⟩) Q) -∗ W c (.op (.semSignal dst q n) k) Q) := by
  subst hdst hn hq
  unfold SigSt owesAny
  rw [bigSep_from]
  iintro ⟨HC, ⟨%W', HO⟩, ⟨Ht, Hp⟩, Hr⟩ Hk
  ihave Hb := (Ctx_bar m κ d) $$ HC
  icases Hb with ⟨HI, HR⟩
  iapply (Rounds.wp_signal 𝒱₀ ER (sched m) (c : Thread nD τ) none (dst := ((d : Dev nD) : Thread nD τ)) (κ := κ (barC d)) (d := c) (k' := 1) (O₀ := owB d.val + owR c 1)
      (by rw [duties_bar]; exact Finset.mem_univ _) (amount_bar m d c) () (owB (d.val + 1) + owR c 1)
      (by rw [owB_peel d]; exact add_right_comm _ _ _) (W := W')) $$ [HI HR HO Ht Hp]
  · isplitl [HI]; · iexact HI
    isplitl [HO]; · iexact HO
    isplitl [Ht]; · iexact Ht
    isplitl [Hp]; · rw [payload_bar]; iexact Hp
    iexact HR
  iintro HO
  iapply Hk
  isplitl [HO]; · iexists W'; iexact HO
  iexact Hr

/-- The wait at the barrier: every peer's rows come in. -/
theorem wp_barWait (κ : GSem nD τ sig → ℕ) (c : Fin 32) {n : ℤ} (hn : n = 32) {q : Sem sig} (hq : q = barrier0)
    {k : PUnit → Prog (TpuEff nD τ sig (Elt F) Λ₀ .tc) PUnit} {Q : PUnit → sProp 𝕄} :
    iprop(Ctx m κ ∗ SigSt (F := F) c 32 ∗ levAts L lv ∗ cred (tallyAt (barC c) () 32) ∗ atPos ER (barC c) 0 ∅ 0)
      ⊢ iprop((iprop(owesAny (F := F) c (owR c 1) ∗ bigSep Finset.univ (fun u => barPay (F := F) c u) ∗ atPos ER (barC c) 1 ∅ 0) -∗ W c (k ⟨⟩) Q)
          -∗ W c (.op (.semWait q n) k) Q) := by
  subst hn hq
  unfold SigSt owesAny
  rw [owB_end, zero_add]
  iintro ⟨HC, ⟨⟨%W', HO⟩, -⟩, Hl, Hcr, Hat⟩ Hk
  ihave Hb := (Ctx_bar m κ c) $$ HC
  icases Hb with ⟨HI, -⟩
  iapply (Rounds.wp_wait_rest_token 𝒱₀ ER (sched m) (c : Thread nD τ) none (κ := κ (barC c)) (k' := 32)
      (wpE_semWait_eq 𝒱₀ (c : Thread nD τ) none Set.univ) (Set.mem_univ _) () (O := owR c 1) (W := W') (R := 0) (m := 0) (T := ∅)
      (by rw [expect_bar])) $$ [HI Hcr HO Hl Hat]
  · isplitl [HI]; · iexact HI
    isplitl [Hcr]; · iexact Hcr
    isplitl [HO]; · iexact HO
    isplitl [Hl]; · iapply (mayWait_bar c c 1); iexact Hl
    iexact Hat
  rw [rest_bar]
  iintro ⟨HO, Hat, -, Hp⟩
  iapply Hk
  isplitl [HO]; · iexists _; iexact HO
  isplitl [Hp]; · iexact Hp
  iexact Hat

theorem add_sub_fin (c h : Fin 32) : (c + h) - h = c := by revert c h; decide

/-! ## A tile's copy to its device -/

/-- What step `h` needs to send: the slab, the peer's rows, its open cell, and the tokens. -/
def SendPkt (c h : Fin 32) : sProp 𝕄 :=
  iprop(slabAny (F := F) c h ∗ rowsAny (F := F) (c + h : Fin 32) c ∗ reached ER (rcvC (c + h : Fin 32) h) 0
    ∗ dutyTok ER (rcvC (c + h : Fin 32) h) 0 0 ∗ dutyTok ER (sndC c h) 0 0 ∗ reached ER (sndC c h) 0)

theorem wp_copy (κ : GSem nD τ sig → ℕ) (c h : Fin 32) (h1 : 1 ≤ h.val) {o10 : Fin 1 → ℕ} {o11 : Fin 2 → ℕ} {o12 : Fin 3 → ℕ}
    (e10 : o10 = ![h.val]) (e11 : o11 = ![128 * c.val, 0]) (e12 : o12 = ![h.val, 0, 0]) {n : Dev nD} (hn : n = ((c + h : Fin 32) : Dev nD))
    {i10 : ∀ a, o10 a + S1.size a ≤ S32.size a} {i11 : ∀ a, o11 a + S128x256.size a ≤ S4096x256.size a}
    {i12 : ∀ a, o12 a + S1x128x256.size a ≤ S32x128x256.size a} {hsc hsrc hdst hsem}
    {k : PUnit → Prog (TpuEff nD τ sig (Elt F) Λ₀ .tc) PUnit} {Q : PUnit → sProp 𝕄} :
    iprop(Ctx m κ ∗ owns (c : Thread nD τ) (slabQ h) fullShare (tile m c (c + h))
        ∗ rowsAny (F := F) (c + h : Fin 32) c ∗ reached ER (rcvC (c + h : Fin 32) h) 0
        ∗ dutyTok ER (rcvC (c + h : Fin 32) h) 0 0 ∗ dutyTok ER (sndC c h) 0 0 ∗ reached ER (sndC c h) 0
        ∗ owesAny (F := F) c (owR c h.val))
      ⊢ iprop((iprop(cred (tallyAt (sndC c h) () N) ∗ owesAny (F := F) c (owR c (h.val + 1))) -∗ W c (k ⟨⟩) Q)
          -∗ W c (.op (.enqueueDma ((yM.slice (Rect.unit (s := S32x128x256) o12 S1x128x256.size i12) (fun _ => rfl)).squeeze S128x256 squeezes_S1x128x256_S128x256)
              (.remote (Dev.tc n) (oM.slice (Rect.unit (s := S4096x256) o11 S128x256.size i11) (fun _ => rfl))
                (.dma ((cc0_scratch3.slice (Rect.unit (s := S32) o10 S1.size i10)).squeeze S_ squeezes_S1_S_).sem) hsc)
              (.dma ((cc0_scratch4.slice (Rect.unit (s := S32) o10 S1.size i10)).squeeze S_ squeezes_S1_S_).sem) hsrc hdst hsem) k) Q) := by
  subst e11 e12 hn
  revert hsem
  rw [sndQ_eq h e10 i10, rcvQ_eq h e10 i10]
  intro hsem
  unfold owns rowsAny owesAny
  iintro ⟨HC, ⟨%fs, %hfs, Hs⟩, ⟨%fd, Hd⟩, HRr, HTr, HTs, HRs, ⟨%W', HO⟩⟩ Hk
  ihave #HC' := (show Ctx m κ ⊢ Ctx m κ from .rfl) $$ HC
  ihave Hb := (Ctx_dma m κ c h h1) $$ HC'
  icases Hb with ⟨HIs, -⟩
  ihave Hb := (Ctx_dma m κ (c + h) h h1) $$ HC'
  icases Hb with ⟨-, HIr⟩
  iapply (Rounds.wp_send_pointsTo 𝒱₀ ER (sched m) (c : Thread nD τ) none (κ₁ := κ (sndC c h)) (κ₂ := κ (rcvC (c + h : Fin 32) h))
    (r₁ := 0) (r₂ := 0) (d₁ := 0) (d₂ := 0) (fs := fs) (fd := fd)
    (by rw [duties_dma]; exact Finset.mem_singleton_self _) (by rw [duties_dma]; exact Finset.mem_singleton_self _)
    () () N rfl (amount_dma m c (sndQ h) 0) (amount_dma m (c + h : Fin 32) (rcvQ h) 0) (owR c (h.val + 1)) (owR_peel c h) (W := W')
    (by rw [payload_snd]; unfold slabAny; iintro H; iexists fs; iexact H)
    (by
      rw [payload_rcv, show ((c + h : Fin 32) - h) = c from add_sub_fin c h]
      unfold rowsAt owns
      iintro H
      iexists ((rowsM c).view.write (Elt F) fd (tile m c (c + h)) Finset.univ)
      isplitr
      · ipureintro; exact View.read_write_univ _ _
      · rw [← hfs]; iexact H)) $$ [HIs HIr Hs Hd HO HTs HRs HTr HRr]
  · isplitl [HIs]; · iexact HIs
    isplitl [HIr]; · iexact HIr
    isplitl [Hs]; · iexact Hs
    isplitl [Hd]; · iexact Hd
    isplitl [HO]; · iexact HO
    isplitl [HTs]; · iexact HTs
    isplitl [HRs]; · iexact HRs
    isplitl [HTr]; · iexact HTr
    iexact HRr
  iintro ⟨Hc, HO⟩
  iapply Hk
  isplitl [Hc]; · iexact Hc
  iexists W'; iexact HO

/-! ## The waits at the end -/

/-- Before the wait on receive cell `n`, -/
def RecvSt (c : Fin 32) (n : ℕ) : sProp 𝕄 :=
  iprop(owesAny (F := F) c 0
    ∗ (bigSep (fromN n) fun h => iprop(atPos ER (rcvC c h) 0 ∅ 0 ∗ cred (tallyAt (rcvC c h) () N)))
    ∗ (bigSep (uptoN n) fun h => iprop(atPos ER (rcvC c h) 1 ∅ 0 ∗ rowsAt m c (c - h))))
/-- and on send cell `n`. -/
def SendSt (c : Fin 32) (n : ℕ) : sProp 𝕄 :=
  iprop(owesAny (F := F) c 0
    ∗ (bigSep (fromN n) fun h => iprop(atPos ER (sndC c h) 0 ∅ 0 ∗ cred (tallyAt (sndC c h) () N)))
    ∗ (bigSep (uptoN n) fun h => iprop(atPos ER (sndC c h) 1 ∅ 0 ∗ slabAny (F := F) c h)))

theorem wp_recvWait (κ : GSem nD τ sig → ℕ) (c h : Fin 32) (h1 : 1 ≤ h.val) {sp : Space} {s' : Shape} {e' : EltTy} {q : DmaSem sig} (hq : q = rcvQ h)
    {src : Memref sig .tc sp s' e'} {sp'' : Space} {s'' : Shape} {e'' : EltTy} {dst : Memref sig .tc sp'' s'' e''} {hsrc hdst} (hN : dst.view.dmaCredit = N)
    {k : PUnit → Prog (TpuEff nD τ sig (Elt F) Λ₀ .tc) PUnit} {Q : PUnit → sProp 𝕄} :
    iprop(Ctx m κ ∗ RecvSt m c h.val)
      ⊢ iprop((RecvSt m c (h.val + 1) -∗ W c (k ⟨⟩) Q) -∗ W c (.op (.waitDma2 q src dst hsrc hdst) k) Q) := by
  subst hq
  unfold RecvSt owesAny
  rw [bigSep_from, bigSep_upto h h1]
  iintro ⟨HC, ⟨%W', HO⟩, ⟨⟨Hat, Hcr⟩, Hr⟩, Hd⟩ Hk
  ihave Hb := (Ctx_dma m κ c h h1) $$ HC
  icases Hb with ⟨-, HI⟩
  iapply (Rounds.wp_wait_rest_token 𝒱₀ ER (sched m) (c : Thread nD τ) none (κ := κ (rcvC c h)) (k' := N)
      (fun K => (wpE_waitDma2_eq 𝒱₀ (c : Thread nD τ) none Set.univ K).trans (by rw [hN])) (Set.mem_univ _) () (O := 0) (W := W') (R := 0) (m := 0) (T := ∅)
      (by rw [expect_dma, Nat.zero_add])) $$ [HI Hcr HO Hat]
  · isplitl [HI]; · iexact HI
    isplitl [Hcr]; · iexact Hcr
    isplitl [HO]; · iexact HO
    isplitr; · rw [MayWait_zero]; iempintro
    iexact Hat
  rw [rest_rcv]
  iintro ⟨HO, Hat, -, Hp⟩
  iapply Hk
  isplitl [HO]; · iexists _; iexact HO
  isplitl [Hr]; · iexact Hr
  isplitl [Hat Hp]
  · isplitl [Hat]; · iexact Hat
    iexact Hp
  iexact Hd

theorem wp_sendWait (κ : GSem nD τ sig → ℕ) (c h : Fin 32) (h1 : 1 ≤ h.val) {sp : Space} {s' : Shape} {e' : EltTy} {q : DmaSem sig} (hq : q = sndQ h)
    {src : Memref sig .tc sp s' e'} {sp'' : Space} {s'' : Shape} {e'' : EltTy} {dst : Memref sig .tc sp'' s'' e''} {hsrc hdst} (hN : dst.view.dmaCredit = N)
    {k : PUnit → Prog (TpuEff nD τ sig (Elt F) Λ₀ .tc) PUnit} {Q : PUnit → sProp 𝕄} :
    iprop(Ctx m κ ∗ SendSt (F := F) c h.val)
      ⊢ iprop((SendSt (F := F) c (h.val + 1) -∗ W c (k ⟨⟩) Q) -∗ W c (.op (.waitDma2 q src dst hsrc hdst) k) Q) := by
  subst hq
  unfold SendSt owesAny
  rw [bigSep_from, bigSep_upto h h1]
  iintro ⟨HC, ⟨%W', HO⟩, ⟨⟨Hat, Hcr⟩, Hr⟩, Hd⟩ Hk
  ihave Hb := (Ctx_dma m κ c h h1) $$ HC
  icases Hb with ⟨HI, -⟩
  iapply (Rounds.wp_wait_rest_token 𝒱₀ ER (sched m) (c : Thread nD τ) none (κ := κ (sndC c h)) (k' := N)
      (fun K => (wpE_waitDma2_eq 𝒱₀ (c : Thread nD τ) none Set.univ K).trans (by rw [hN])) (Set.mem_univ _) () (O := 0) (W := W') (R := 0) (m := 0) (T := ∅)
      (by rw [expect_dma, Nat.zero_add])) $$ [HI Hcr HO Hat]
  · isplitl [HI]; · iexact HI
    isplitl [Hcr]; · iexact Hcr
    isplitl [HO]; · iexact HO
    isplitr; · rw [MayWait_zero]; iempintro
    iexact Hat
  rw [rest_snd]
  iintro ⟨HO, Hat, -, Hp⟩
  iapply Hk
  isplitl [HO]; · iexists _; iexact HO
  isplitl [Hr]; · iexact Hr
  isplitl [Hat Hp]
  · isplitl [Hat]; · iexact Hat
    iexact Hp
  iexact Hd

end Cert.A2A
-- ==== Proof.Body.lean ====
/-
# A grid step

The ring of weight blocks and the steps of the body over it: reading a tile's operands, refilling a slot, storing
the tile. Then the body at a step between the first and the last.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The conditions of a step -/

theorem cond1_iff (i : grid0.Coords) : k0_cond1 i = 1#1 ↔ (i 0).val = 0 := by
  unfold k0_cond1; generalize i 0 = x; revert x; decide +kernel
theorem cond2_iff (i : grid0.Coords) : k0_cond2 i = 1#1 ↔ (i 0).val = 0 := by
  unfold k0_cond2; generalize i 0 = x; revert x; decide +kernel
theorem cond3_iff (i : grid0.Coords) : k0_cond3 i = 1#1 ↔ (i 0).val ≠ 0 := by
  unfold k0_cond3; generalize i 0 = x; revert x; decide +kernel
theorem cond4_iff (i : grid0.Coords) : k0_cond4 i = 1#1 ↔ (i 0).val + 6 < 32 := by
  unfold k0_cond4; generalize i 0 = x; revert x; decide +kernel
theorem cond5_iff (i : grid0.Coords) : k0_cond5 i = 1#1 ↔ (i 0).val = 31 := by
  unfold k0_cond5; generalize i 0 = x; revert x; decide +kernel

/-- The body at grid coordinates `i`. -/
abbrev bodyP (i : grid0.Coords) : Prog (TpuEff nD τ sig (Elt F) Λ₀ .tc) PUnit :=
  cc0_body i xM (Memref.isWhole_whole _) wM (Memref.isWhole_whole _) sxM (Memref.isWhole_whole _) swM (Memref.isWhole_whole _)
    oM (Memref.isWhole_whole _) bM (Memref.isWhole_whole _) cc0_scratch1 yM (Memref.isWhole_whole _) cc0_scratch3 cc0_scratch4

/-! ## The ring -/

/-- The steps before `n`. -/
def below (n : ℕ) : Finset (Fin 32) := Finset.univ.filter (·.val < n)
theorem mem_below {n : ℕ} {h : Fin 32} : h ∈ below n ↔ h.val < n := by simp [below]
theorem below_zero : below 0 = ∅ := by ext h; simp [mem_below]
theorem below_end : below 32 = Finset.univ := by ext h; simp [mem_below]
theorem bigSep_below (h : Fin 32) (Φ : Fin 32 → sProp 𝕄) :
    bigSep (below (h.val + 1)) Φ = iprop(Φ h ∗ bigSep (below h.val) Φ) := by
  rw [show below (h.val + 1) = insert h (below h.val) from by
    ext x; simp only [mem_below, Finset.mem_insert, Fin.ext_iff]; omega, bigSep_insert (by rw [mem_below]; omega)]; rfl
theorem fromN_empty (n : ℕ) (h : 32 ≤ n) : fromN n = ∅ := by
  ext x; have := x.isLt; simp only [mem_fromN, Finset.notMem_empty, iff_false]; omega

/-- Place `b` of the ring: block `b` on its way, or past the last block the slot alone. -/
def ringAt (c : Dev nD) (b : ℕ) : sProp 𝕄 := if b < 32 then wFly m c (slotOf b) (blkOf c b) else slotFree (F := F) c (slotOf b)
/-- Column block of step `b`. -/
def homeAt (c : Dev nD) (b : Fin 32) : sProp 𝕄 := colAt m c (blkOf c b.val)

/-- Before step `j`: six places, and the other column blocks. -/
def Ring (c : Dev nD) (j : ℕ) : sProp 𝕄 :=
  iprop(bigSep (Finset.Ico j (j + 6)) (ringAt m c) ∗ bigSep (below j) (homeAt m c) ∗ bigSep (fromN (j + 6)) (homeAt m c))
/-- When block `j` has been read: its slot is free. -/
def RingMid (c : Dev nD) (j : ℕ) : sProp 𝕄 :=
  iprop(bigSep (Finset.Ico (j + 1) (j + 6)) (ringAt m c) ∗ slotFree (F := F) c (slotOf (j + 6)) ∗ bigSep (below (j + 1)) (homeAt m c)
    ∗ bigSep (fromN (j + 6)) (homeAt m c))

theorem slotOf_add (j : ℕ) : slotOf (j + 6) = slotOf j := Fin.ext (Nat.add_mod_right j 6)

theorem ring_take (j : ℕ) (Φ : ℕ → sProp 𝕄) : bigSep (Finset.Ico j (j + 6)) Φ = iprop(Φ j ∗ bigSep (Finset.Ico (j + 1) (j + 6)) Φ) := by
  rw [show Finset.Ico j (j + 6) = insert j (Finset.Ico (j + 1) (j + 6)) from by
    ext x; simp only [Finset.mem_Ico, Finset.mem_insert]; omega, bigSep_insert (by simp)]; rfl
theorem ring_put (j : ℕ) (Φ : ℕ → sProp 𝕄) : bigSep (Finset.Ico (j + 1) (j + 1 + 6)) Φ = iprop(Φ (j + 6) ∗ bigSep (Finset.Ico (j + 1) (j + 6)) Φ) := by
  rw [show Finset.Ico (j + 1) (j + 1 + 6) = insert (j + 6) (Finset.Ico (j + 1) (j + 6)) from by
    ext x; simp only [Finset.mem_Ico, Finset.mem_insert]; omega, bigSep_insert (by simp)]; rfl

theorem ringMid_end (c : Dev nD) (j : ℕ) (h : 32 ≤ j + 6) : RingMid m c j ⊢ Ring m c (j + 1) := by
  unfold RingMid Ring
  rw [ring_put, fromN_empty _ h, fromN_empty (j + 1 + 6) (by omega)]
  iintro ⟨Hr, Hs, Hb, Hf⟩
  isplitl [Hr Hs]
  · isplitl [Hs]
    · unfold ringAt; rw [if_neg (by omega)]; iexact Hs
    · iexact Hr
  isplitl [Hb]; · iexact Hb
  iexact Hf

/-! ## What stays -/

/-- The operands that are staged once. -/
def Const (c : Dev nD) : sProp 𝕄 :=
  iprop(owns (c : Thread nD τ) xM fullShare (xv m c) ∗ owns (c : Thread nD τ) sxM fullShare (sxv m c) ∗ owns (c : Thread nD τ) swM fullShare (swv m c))

/-- A weight block as the ring holds it. -/
def wslab (c : Dev nD) (t : Fin 32) : Vec F S1x4096x256 .f32 :=
  fun j => wv m c t ((Shape.reshapeEquiv squeezes_S1x4096x256_S4096x256.numel_eq).symm j)

theorem s1_eq (a b : S1.Idx) : a = b := by
  funext d
  have ha := (a d).isLt
  have hb := (b d).isLt
  have hd : S1.size d = 1 := (show ∀ d, S1.size d = 1 by decide) d
  apply Fin.ext; omega

theorem tile_eq (c : Dev nD) (t : Fin 32) (a b : S1.Idx) : k0_pay2 (sxv m c a) (swv m c b) (xv m c) (wslab m c t) = tile m c t := by
  rw [s1_eq a i1, s1_eq b i1]; rfl

/-- A whole buffer's load. -/
theorem wp_loadAll (c : Dev nD) {cs : CoreSpace} {s : Shape} {e : EltTy} {M : Memref sig .tc cs s e} {X : s.Idx → Elt F e} {off : Fin s.rank → ℕ} {inb : ∀ a, off a + s.size a ≤ s.size a}
    {hl : M.view.LoadsAt (Rect.unit (s := s) off s.size inb).toLoadRect} {k : (s.Idx → Elt F e) → Prog (TpuEff nD τ sig (Elt F) Λ₀ .tc) PUnit} {Q : PUnit → sProp 𝕄} :
    owns (c : Thread nD τ) M fullShare X
      ⊢ iprop((owns (c : Thread nD τ) M fullShare X -∗ W c (k X) Q) -∗ W c (.op (.load M (Rect.unit (s := s) off s.size inb).toLoadRect hl) k) Q) := by
  unfold owns
  iintro ⟨%g, %hg, H⟩ Hk
  iapply (wp_load 𝒱₀ (c : Thread nD τ) none Set.univ (S := M.view.set) (f := g) (View.setOn_subset_set _ _)) $$ H
  iintro H
  rw [show M.view.readAt (Elt F) (Rect.unit (s := s) off s.size inb).toLoadRect g = X from by
    rw [← hg]; funext y
    exact congrArg (M.view.read (Elt F) g) (funext fun a => Fin.ext (by
      show off a + 1 * (y a).val = (y a).val
      have := inb a; omega))]
  iapply Hk
  iexists g
  isplitr; · ipureintro; exact hg
  iexact H

/-- A slot's load. -/
theorem wp_loadSlot (c : Dev nD) (s : Fin 6) (t : Fin 32) {o7 : Fin 3 → ℕ} (h7 : o7 = ![s.val, 0, 0])
    {i7 : ∀ a, o7 a + S1x4096x256.size a ≤ S6x4096x256.size a} {hl}
    {k : (S1x4096x256.Idx → Elt F .f32) → Prog (TpuEff nD τ sig (Elt F) Λ₀ .tc) PUnit} {Q : PUnit → sProp 𝕄} :
    slotAt m c s t
      ⊢ iprop((slotAt m c s t -∗ W c (k (wslab m c t)) Q)
        -∗ W c (.op (.load bM (Rect.unit (s := S6x4096x256) o7 S1x4096x256.size i7).toLoadRect hl) k) Q) := by
  subst h7
  unfold slotAt owns
  iintro ⟨%g, %hg, H⟩ Hk
  iapply (wp_load_rect 𝒱₀ (c : Thread nD τ) none Set.univ (m := bM) (r := slotR s) (S := (slotQ s).view.set) (f := g)
    (View.set_reshape (v := (slotM s).view) squeezes_S1x4096x256_S4096x256.numel_eq).ge) $$ H
  iintro H
  rw [show (bM.access (slotR s)).read (Elt F) g = wslab m c t from by
    unfold wslab; rw [← hg]; funext j
    show _ = (slotM s).view.read (Elt F) g (Shape.reshapeEquiv _ _)
    rw [Equiv.apply_symm_apply]]
  iapply Hk
  iexists g
  isplitr; · ipureintro; exact hg
  iexact H

/-- The operands of the tile of step `j`. -/
theorem wp_operands (c : Dev nD) (j : ℕ) (hj : j < 32) {o4 : Fin 1 → ℕ} {o5 o7 : Fin 3 → ℕ} (h4 : o4 = ![j % 6]) (h7 : o7 = ![j % 6, 0, 0])
    {O : CellTallies nD τ sig Unit} (hO : ∀ s : Fin 6, (levAts L lv : sProp 𝕄) ⊢ MayWait (c : Thread nD τ) (.dma (wQ s)) () O)
    {i4 : ∀ a, o4 a + S1.size a ≤ S6.size a} {i5 : ∀ a, o5 a + S1x4096x256.size a ≤ S6x4096x256.size a}
    {i7 : ∀ a, o7 a + S1x4096x256.size a ≤ S6x4096x256.size a} {ia ib ic} {src : Memref sig .tc .hbm S4096x256 .f32} {hsrc hdst l1 l2 l3 l4}
    {k : (S1.Idx → Elt F .f32) → (S1.Idx → Elt F .f32) → (S128x4096.Idx → Elt F .fp8e4m3) → (S1x4096x256.Idx → Elt F .f32) → Prog (TpuEff nD τ sig (Elt F) Λ₀ .tc) PUnit}
    {Q : PUnit → sProp 𝕄} :
    iprop(Const m c ∗ Ring m c j ∗ owesAny c O ∗ levAts L lv)
      ⊢ iprop((iprop(Const m c ∗ RingMid m c j ∗ owesAny c O) -∗ W c (k (sxv m c) (swv m c) (xv m c) (wslab m c (blkOf c j))) Q)
        -∗ W c (.op (.load sxM (Rect.unit (s := S1) ![0] S1.size ia).toLoadRect l1) fun a =>
            .op (.load swM (Rect.unit (s := S1) ![0] S1.size ib).toLoadRect l2) fun b =>
            .op (.waitDma2 ((cc0_scratch1.slice (Rect.unit (s := S6) o4 S1.size i4)).squeeze S_ squeezes_S1_S_).sem src
              ((bM.slice (Rect.unit (s := S6x4096x256) o5 S1x4096x256.size i5) (fun _ => rfl)).squeeze S4096x256 squeezes_S1x4096x256_S4096x256) hsrc hdst) fun _ =>
            .op (.load xM (Rect.unit (s := S128x4096) ![0, 0] S128x4096.size ic).toLoadRect l3) fun x =>
            .op (.load bM (Rect.unit (s := S6x4096x256) o7 S1x4096x256.size i7).toLoadRect l4) fun y => k a b x y) Q) := by
  unfold Const Ring RingMid
  rw [ring_take, show bigSep (below (j + 1)) (homeAt m c) = _ from bigSep_below ⟨j, hj⟩ (homeAt m c)]
  unfold ringAt
  rw [if_pos hj]
  iintro ⟨⟨Hx, Hsx, Hsw⟩, ⟨⟨HF, Hr⟩, Hb, Hf⟩, HO, Hl⟩ Hk
  iapply (wp_loadAll c) $$ Hsx; iintro Hsx
  iapply (wp_loadAll c) $$ Hsw; iintro Hsw
  iapply (wp_wWait m c (slotOf j) (blkOf c j) (o1 := o4) h4 (hO _)) $$ [HF HO Hl]
  · isplitl [HF]; · iexact HF
    isplitl [HO]; · iexact HO
    iexact Hl
  iintro ⟨Hs, Hc, Hv, HO⟩
  iapply (wp_loadAll c) $$ Hx; iintro Hx
  iapply (wp_loadSlot m c (slotOf j) (blkOf c j) (o7 := o7) h7) $$ Hs; iintro Hs
  iapply Hk
  isplitl [Hx Hsx Hsw]
  · isplitl [Hx]; · iexact Hx
    isplitl [Hsx]; · iexact Hsx
    iexact Hsw
  isplitl [Hr Hs Hv Hc Hb Hf]
  · isplitl [Hr]; · iexact Hr
    isplitl [Hs Hv]
    · rw [slotOf_add]; unfold slotFree
      isplitl [Hs]; · iapply (slotAt_any m c (slotOf j) (blkOf c j)); iexact Hs
      iexact Hv
    isplitl [Hc Hb]
    · isplitl [Hc]; · unfold homeAt; iexact Hc
      iexact Hb
    iexact Hf
  iexact HO

/-- The refill of the slot. -/
theorem wp_refill (c : Dev nD) (j : ℕ) (hj : j + 6 < 32) {o1 : Fin 1 → ℕ} {o2 : Fin 3 → ℕ} {o3 : Fin 2 → ℕ}
    (h1 : o1 = ![(j + 6) % 6]) (h2 : o2 = ![(j + 6) % 6, 0, 0]) (h3 : o3 = ![0, 256 * ((c.val + j + 6) % 32)])
    {i1 : ∀ a, o1 a + S1.size a ≤ S6.size a} {i2 : ∀ a, o2 a + S1x4096x256.size a ≤ S6x4096x256.size a}
    {i3 : ∀ a, o3 a + S4096x256.size a ≤ S4096x8192.size a} {hsrc hdst hsem}
    {k : PUnit → Prog (TpuEff nD τ sig (Elt F) Λ₀ .tc) PUnit} {Q : PUnit → sProp 𝕄} :
    RingMid m c j
      ⊢ iprop((Ring m c (j + 1) -∗ W c (k ⟨⟩) Q)
          -∗ W c (.op (.enqueueDma (wM.slice (Rect.unit (s := S4096x8192) o3 S4096x256.size i3) (fun _ => rfl))
              (.here ((bM.slice (Rect.unit (s := S6x4096x256) o2 S1x4096x256.size i2) (fun _ => rfl)).squeeze S4096x256 squeezes_S1x4096x256_S4096x256))
              (.dma ((cc0_scratch1.slice (Rect.unit (s := S6) o1 S1.size i1)).squeeze S_ squeezes_S1_S_).sem) hsrc hdst hsem) k) Q) := by
  unfold RingMid Ring
  rw [ring_put, show bigSep (fromN (j + 6)) (homeAt m c) = _ from bigSep_from ⟨j + 6, hj⟩ (homeAt m c),
    show j + 1 + 6 = j + 6 + 1 from by omega]
  unfold ringAt
  rw [if_pos hj]
  iintro ⟨Hr, Hs, Hb, Hc, Hf⟩ Hk
  iapply (wp_wStart m c (slotOf (j + 6)) (blkOf c (j + 6)) (o1 := o1) (o2 := o2) (o3 := o3) h1 h2 (by rw [h3, Nat.add_assoc]; rfl)) $$ [Hs Hc]
  · isplitl [Hs]; · iexact Hs
    unfold homeAt; iexact Hc
  iintro HF
  iapply Hk
  isplitl [Hr HF]
  · isplitl [HF]; · iexact HF
    iexact Hr
  isplitl [Hb]; · iexact Hb
  iexact Hf

/-! ## The tile's store -/

/-- Into a slab. -/
theorem wp_slabStore (c : Dev nD) (h : Fin 32) (v : FVec F S128x256 .f32) {o9 : Fin 3 → ℕ} (e9 : o9 = ![h.val, 0, 0])
    {i9 : ∀ a, o9 a + S1x128x256.size a ≤ S32x128x256.size a} {l1 hx hm}
    {k : PUnit → Prog (TpuEff nD τ sig (Elt F) Λ₀ .tc) PUnit} {Q : PUnit → sProp 𝕄} :
    slabAny (F := F) c h
      ⊢ iprop((owns (c : Thread nD τ) (slabQ h) fullShare v -∗ W c (k ⟨⟩) Q)
        -∗ W c (.op (.load yM (Rect.unit (s := S32x128x256) o9 S1x128x256.size i9).toLoadRect l1) fun _ =>
            .op (.store yM (Rect.unit (s := S32x128x256) o9 S1x128x256.size i9) (k0_pay1 v) Finset.univ hx hm) k) Q) := by
  subst e9
  unfold slabAny owns
  iintro ⟨%f, H⟩ Hk
  have hS : (yM.access (slabR h)).set ⊆ (slabQ h).view.set :=
    (View.set_reshape (v := (slabM h).view) squeezes_S1x128x256_S128x256.numel_eq).ge
  iapply (wp_load_rect 𝒱₀ (c : Thread nD τ) none Set.univ (m := yM) (r := slabR h) (S := (slabQ h).view.set) (f := f) hS) $$ H
  iintro H
  iapply (wp_store 𝒱₀ (c : Thread nD τ) none Set.univ (m := yM) (r := slabR h) (S := (slabQ h).view.set) (f := f)
    ((View.setOn_subset_set _ _).trans hS)) $$ H
  iintro H
  iapply Hk
  iexists ((yM.access (slabR h)).write (Elt F) f (k0_pay1 v) Finset.univ)
  isplitr
  · ipureintro
    funext j
    show (slabM h).view.read (Elt F) _ (Shape.reshapeEquiv squeezes_S1x128x256_S128x256.numel_eq j) = v j
    rw [show (slabM h).view.read (Elt F) ((yM.access (slabR h)).write (Elt F) f (k0_pay1 v) Finset.univ) = k0_pay1 v from View.read_write_univ _ _]
    show v (Shape.reshapeEquiv _ (Shape.reshapeEquiv _ j)) = v j
    congr 1
    exact (Shape.reshapeEquiv_reshapeEquiv _ _ _).trans (Shape.reshapeEquiv_self _ _)
  iexact H

/-- Into the device's own rows. -/
theorem wp_rowStore (c : Dev nD) (v : FVec F S128x256 .f32) {o8 : Fin 2 → ℕ} (e8 : o8 = ![128 * c.val, 0])
    {i8 : ∀ a, o8 a + S128x256.size a ≤ S4096x256.size a} {l1 hx hm}
    {k : PUnit → Prog (TpuEff nD τ sig (Elt F) Λ₀ .tc) PUnit} {Q : PUnit → sProp 𝕄} :
    rowsAny (F := F) c c
      ⊢ iprop((owns (c : Thread nD τ) (rowsM c) fullShare v -∗ W c (k ⟨⟩) Q)
        -∗ W c (.op (.load oM (Rect.unit (s := S4096x256) o8 S128x256.size i8).toLoadRect l1) fun _ =>
            .op (.store oM (Rect.unit (s := S4096x256) o8 S128x256.size i8) v Finset.univ hx hm) k) Q) := by
  subst e8
  unfold rowsAny owns
  iintro ⟨%f, H⟩ Hk
  iapply (wp_load_rect 𝒱₀ (c : Thread nD τ) none Set.univ (m := oM) (r := rowsR c) (S := (rowsM c).view.set) (f := f) (Finset.Subset.refl _)) $$ H
  iintro H
  iapply (wp_store 𝒱₀ (c : Thread nD τ) none Set.univ (m := oM) (r := rowsR c) (S := (rowsM c).view.set) (f := f)
    (View.setOn_subset_set _ _)) $$ H
  iintro H
  iapply Hk
  iexists ((oM.access (rowsR c)).write (Elt F) f v Finset.univ)
  isplitr
  · ipureintro; exact View.read_write_univ _ _
  iexact H

/-! ## The state between steps -/

/-- Before step `j`, from 1 on. -/
def BodySt (c : Fin 32) (j : ℕ) : sProp 𝕄 :=
  iprop(Const m c ∗ Ring m c j ∗ rowsAt m c c ∗ bigSep (fromN j) (SendPkt (F := F) c)
    ∗ bigSep (uptoN j) (fun h => cred (tallyAt (sndC c h) () N)) ∗ owesAny (F := F) c (owR c j))

theorem blk_eq (c h : Fin 32) : blkOf c h.val = c + h := by revert c h; decide
theorem hO_low (c : Dev nD) (d : Fin 32) (n : ℕ) (s : Fin 6) :
    (levAts L lv : sProp 𝕄) ⊢ MayWait (c : Thread nD τ) (.dma (wQ s)) () (owR d n) :=
  mayWait_low c (wQ s) (by have := s.isLt; show 4 + s.val < 42; omega) d n

/-- The store of a tile and its copy. -/
theorem wp_ship (κ : GSem nD τ sig → ℕ) (c h : Fin 32) (h1 : 1 ≤ h.val) (v : FVec F S128x256 .f32) (hv : v = tile m c (c + h))
    {o9 o12 : Fin 3 → ℕ} {o10 : Fin 1 → ℕ} {o11 : Fin 2 → ℕ} (e9 : o9 = ![h.val, 0, 0])
    (e10 : o10 = ![h.val]) (e11 : o11 = ![128 * c.val, 0]) (e12 : o12 = ![h.val, 0, 0]) {n : Dev nD} (hn : n = ((c + h : Fin 32) : Dev nD))
    {i9 : ∀ a, o9 a + S1x128x256.size a ≤ S32x128x256.size a}
    {i10 : ∀ a, o10 a + S1.size a ≤ S32.size a} {i11 : ∀ a, o11 a + S128x256.size a ≤ S4096x256.size a}
    {i12 : ∀ a, o12 a + S1x128x256.size a ≤ S32x128x256.size a} {l1 hx hm hsc hsrc hdst hsem}
    {k : PUnit → Prog (TpuEff nD τ sig (Elt F) Λ₀ .tc) PUnit} {Q : PUnit → sProp 𝕄} :
    iprop(Ctx m κ ∗ bigSep (fromN h.val) (SendPkt (F := F) c) ∗ bigSep (uptoN h.val) (fun h => cred (tallyAt (sndC c h) () N)) ∗ owesAny (F := F) c (owR c h.val))
      ⊢ iprop((iprop(bigSep (fromN (h.val + 1)) (SendPkt (F := F) c) ∗ bigSep (uptoN (h.val + 1)) (fun h => cred (tallyAt (sndC c h) () N)) ∗ owesAny (F := F) c (owR c (h.val + 1))) -∗ W c (k ⟨⟩) Q)
        -∗ W c (.op (.load yM (Rect.unit (s := S32x128x256) o9 S1x128x256.size i9).toLoadRect l1) fun _ =>
            .op (.store yM (Rect.unit (s := S32x128x256) o9 S1x128x256.size i9) (k0_pay1 v) Finset.univ hx hm) fun _ =>
            .op (.enqueueDma ((yM.slice (Rect.unit (s := S32x128x256) o12 S1x128x256.size i12) (fun _ => rfl)).squeeze S128x256 squeezes_S1x128x256_S128x256)
              (.remote (Dev.tc n) (oM.slice (Rect.unit (s := S4096x256) o11 S128x256.size i11) (fun _ => rfl))
                (.dma ((cc0_scratch3.slice (Rect.unit (s := S32) o10 S1.size i10)).squeeze S_ squeezes_S1_S_).sem) hsc)
              (.dma ((cc0_scratch4.slice (Rect.unit (s := S32) o10 S1.size i10)).squeeze S_ squeezes_S1_S_).sem) hsrc hdst hsem) k) Q) := by
  subst hv
  rw [bigSep_from, bigSep_upto h h1]
  unfold SendPkt
  iintro ⟨HC, ⟨⟨Hs, Hd, HRr, HTr, HTs, HRs⟩, Hf⟩, Hu, HO⟩ Hk
  iapply (wp_slabStore c h (tile m c (c + h)) (o9 := o9) e9) $$ Hs
  iintro Hs
  iapply (wp_copy m κ c h h1 (o10 := o10) (o11 := o11) (o12 := o12) e10 e11 e12 hn) $$ [HC Hs Hd HRr HTr HTs HRs HO]
  · isplitl [HC]; · iexact HC
    isplitl [Hs]; · iexact Hs
    isplitl [Hd]; · iexact Hd
    isplitl [HRr]; · iexact HRr
    isplitl [HTr]; · iexact HTr
    isplitl [HTs]; · iexact HTs
    isplitl [HRs]; · iexact HRs
    iexact HO
  iintro ⟨Hc, HO⟩
  iapply Hk
  isplitl [Hf]; · iexact Hf
  isplitl [Hc Hu]
  · isplitl [Hc]; · iexact Hc
    iexact Hu
  iexact HO

theorem body_mid (κ : GSem nD τ sig → ℕ) (c : Fin 32) (i : grid0.Coords) (h : Fin 32) (hi : i 0 = h) (h1 : 1 ≤ h.val) (h2 : h.val ≤ 30) (K : PUnit → sProp 𝕄) :
    iprop(Ctx m κ ∗ levAts L lv ∗ BodySt m c h.val ∗ (BodySt m c (h.val + 1) -∗ K ⟨⟩)) ⊢ W c (bodyP i) K := by
  have n1 : ¬ k0_cond1 i = 1#1 := by rw [cond1_iff, hi]; omega
  have n2 : ¬ k0_cond2 i = 1#1 := by rw [cond2_iff, hi]; omega
  have n3 : k0_cond3 i = 1#1 := by rw [cond3_iff, hi]; omega
  have n5 : ¬ k0_cond5 i = 1#1 := by rw [cond5_iff, hi]; omega
  have hd : ∀ p, (⟨k0_dev33 i c, p⟩ : Dev nD) = ((c + h : Fin 32) : Dev nD) := fun p =>
    Fin.ext ((k0_dev33_eq i c).trans (by rw [hi]; exact congrArg Fin.val (blk_eq c h)))
  unfold bodyP
  rw [cc0_body_eq_skeleton]; unfold cc0_body_skel
  simp only [k0_part28_eq_skeleton, k0_part28_skel, semSignalWord, semWaitWord, smemLoad, smemLoadElt, Prog.lift, Prog.bind_op, Prog.bind_ret, Prog.pure_eq_ret, wp_deviceId, dif_pos n3, dif_neg n1, dif_neg n2, dif_neg n5]
  unfold BodySt
  iintro ⟨HC, Hl, ⟨Hc, Hr, Hown, Hf, Hu, HO⟩, HK⟩
  iapply (wp_operands m c h.val h.isLt ((k0_off4_eq i).trans (by rw [hi])) ((k0_off7_eq i).trans (by rw [hi])) (hO_low c c _)) $$ [Hc Hr HO Hl]
  · isplitl [Hc]; · iexact Hc
    isplitl [Hr]; · iexact Hr
    isplitl [HO]; · iexact HO
    iexact Hl
  iintro ⟨Hc, Hr, HO⟩
  rw [tile_eq, blk_eq]
  iapply (wp_ship m κ c h h1 _ rfl ((k0_off9_eq i).trans (by rw [hi])) ((k0_off10_eq i).trans (by rw [hi])) (k0_off11_eq c) ((k0_off12_eq i).trans (by rw [hi])) (hd _)) $$ [HC Hf Hu HO]
  · isplitl [HC]; · iexact HC
    isplitl [Hf]; · iexact Hf
    isplitl [Hu]; · iexact Hu
    iexact HO
  iintro ⟨Hf, Hu, HO⟩
  by_cases n4 : k0_cond4 i = 1#1
  · rw [dif_pos n4]
    iapply (wp_refill m c h.val (by rw [cond4_iff, hi] at n4; exact n4) ((k0_off13_eq i).trans (by rw [hi])) ((k0_off14_eq i).trans (by rw [hi])) ((k0_off15_eq i c).trans (by rw [hi]))) $$ Hr
    iintro Hr
    iapply (le_wp_ret _ _ _ _ _)
    iapply HK
    isplitl [Hc]; · iexact Hc
    isplitl [Hr]; · iexact Hr
    isplitl [Hown]; · iexact Hown
    isplitl [Hf]; · iexact Hf
    isplitl [Hu]; · iexact Hu
    iexact HO
  · rw [dif_neg n4]
    iapply (le_wp_ret _ _ _ _ _)
    iapply HK
    isplitl [Hc]; · iexact Hc
    isplitl [Hr]; · iapply (ringMid_end m c h.val (by rw [cond4_iff, hi] at n4; omega)); iexact Hr
    isplitl [Hown]; · iexact Hown
    isplitl [Hf]; · iexact Hf
    isplitl [Hu]; · iexact Hu
    iexact HO

end Cert.A2A
-- ==== Proof.Last.lean ====
/-
# The last grid step

The step's own tile, then the waits for every tile received and every tile sent.
-/
module

public import proofs.«01_k».proof.Proof.Body

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- What the waits of the last step use. -/
def Rest (c : Fin 32) : sProp 𝕄 :=
  iprop((bigSep (fromN 1) fun h => iprop(atPos ER (rcvC c h) 0 ∅ 0 ∗ cred (tallyAt (rcvC c h) () N)))
    ∗ (bigSep (fromN 1) fun h => atPos ER (sndC c h) 0 ∅ 0))

/-- After the last step. -/
def BodyEnd (c : Fin 32) : sProp 𝕄 :=
  iprop(Const m c ∗ Ring m c 32 ∗ rowsAt m c c
    ∗ (bigSep (fromN 1) fun h => iprop(atPos ER (rcvC c h) 1 ∅ 0 ∗ rowsAt m c (c - h)))
    ∗ (bigSep (fromN 1) fun h => iprop(atPos ER (sndC c h) 1 ∅ 0 ∗ slabAny (F := F) c h)) ∗ owesAny (F := F) c 0)

theorem recvSt_start (c : Fin 32) :
    iprop(owesAny (F := F) c 0 ∗ (bigSep (fromN 1) fun h => iprop(atPos ER (rcvC c h) 0 ∅ 0 ∗ cred (tallyAt (rcvC c h) () N)))) ⊢ RecvSt m c 1 := by
  unfold RecvSt
  rw [uptoN_one, bigSep_empty]
  iintro ⟨HO, H⟩
  isplitl [HO]; · iexact HO
  isplitl [H]; · iexact H
  iempintro
theorem sendSt_start (c : Fin 32) :
    iprop(owesAny (F := F) c 0 ∗ (bigSep (fromN 1) fun h => atPos ER (sndC c h) 0 ∅ 0) ∗ bigSep (fromN 1) (fun h => cred (tallyAt (sndC c h) () N))) ⊢ SendSt (F := F) c 1 := by
  unfold SendSt
  rw [uptoN_one, bigSep_empty, bigSep_sep']
  iintro ⟨HO, H, Hc⟩
  isplitl [HO]; · iexact HO
  isplitl [H Hc]
  · isplitl [H]; · iexact H
    iexact Hc
  iempintro
theorem recvSt_end (c : Fin 32) :
    RecvSt m c 32 ⊢ iprop(owesAny (F := F) c 0 ∗ bigSep (fromN 1) fun h => iprop(atPos ER (rcvC c h) 1 ∅ 0 ∗ rowsAt m c (c - h))) := by
  unfold RecvSt
  rw [uptoN_end]
  iintro ⟨HO, -, H⟩
  isplitl [HO]; · iexact HO
  iexact H
theorem sendSt_end (c : Fin 32) :
    SendSt (F := F) c 32 ⊢ iprop(owesAny (F := F) c 0 ∗ bigSep (fromN 1) fun h => iprop(atPos ER (sndC c h) 1 ∅ 0 ∗ slabAny (F := F) c h)) := by
  unfold SendSt
  rw [uptoN_end]
  iintro ⟨HO, -, H⟩
  isplitl [HO]; · iexact HO
  iexact H

theorem owes_end (c : Fin 32) : owesAny (F := F) c (owR c 32) ⊢ owesAny (F := F) c 0 := by rw [owR_end]
theorem upto_end (Φ : Fin 32 → sProp 𝕄) : bigSep (uptoN 32) Φ ⊢ bigSep (fromN 1) Φ := by rw [uptoN_end]

theorem body_last (κ : GSem nD τ sig → ℕ) (c : Fin 32) (i : grid0.Coords) (hi : i 0 = (⟨31, by decide⟩ : Fin 32)) (K : PUnit → sProp 𝕄) :
    iprop(Ctx m κ ∗ levAts L lv ∗ BodySt m c 31 ∗ Rest (F := F) c ∗ (BodyEnd m c -∗ K ⟨⟩)) ⊢ W c (bodyP i) K := by
  have n1 : ¬ k0_cond1 i = 1#1 := by rw [cond1_iff, hi]; decide
  have n2 : ¬ k0_cond2 i = 1#1 := by rw [cond2_iff, hi]; decide
  have n3 : k0_cond3 i = 1#1 := by rw [cond3_iff, hi]; decide
  have n4 : ¬ k0_cond4 i = 1#1 := by rw [cond4_iff, hi]; decide
  have n5 : k0_cond5 i = 1#1 := by rw [cond5_iff, hi]
  have hd : ∀ p, (⟨k0_dev33 i c, p⟩ : Dev nD) = ((c + (⟨31, by decide⟩ : Fin 32) : Fin 32) : Dev nD) := fun p =>
    Fin.ext ((k0_dev33_eq i c).trans (by rw [hi]; exact congrArg Fin.val (blk_eq c (⟨31, by decide⟩ : Fin 32))))
  unfold bodyP
  rw [cc0_body_eq_skeleton]; unfold cc0_body_skel
  simp only [k0_part28_eq_skeleton, k0_part28_skel, k0_part27_eq_skeleton, k0_part27_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel,
    semSignalWord, semWaitWord, smemLoad, smemLoadElt, Prog.lift, Prog.bind_op, Prog.bind_ret, Prog.pure_eq_ret, wp_deviceId, dif_pos n3, dif_neg n1, dif_neg n2, dif_neg n4, dif_pos n5]
  unfold BodySt Rest
  iintro ⟨HC, Hl, ⟨Hc, Hr, Hown, Hf, Hu, HO⟩, ⟨Hrc, Hsn⟩, HK⟩
  ihave #HC' := (show Ctx m κ ⊢ Ctx m κ from .rfl) $$ HC
  iapply (wp_operands m c 31 (by decide) ((k0_off4_eq i).trans (by rw [hi])) ((k0_off7_eq i).trans (by rw [hi])) (hO_low c c _)) $$ [Hc Hr HO Hl]
  · isplitl [Hc]; · iexact Hc
    isplitl [Hr]; · iexact Hr
    isplitl [HO]; · iexact HO
    iexact Hl
  iintro ⟨Hc, Hr, HO⟩
  rw [tile_eq, show blkOf c 31 = c + (⟨31, by decide⟩ : Fin 32) from blk_eq c (⟨31, by decide⟩ : Fin 32)]
  iapply (wp_ship m κ c (⟨31, by decide⟩ : Fin 32) (by decide) _ rfl ((k0_off9_eq i).trans (by rw [hi])) ((k0_off10_eq i).trans (by rw [hi])) (k0_off11_eq c) ((k0_off12_eq i).trans (by rw [hi])) (hd _)) $$ [Hf Hu HO]
  · isplitr; · iexact HC'
    isplitl [Hf]; · iexact Hf
    isplitl [Hu]; · iexact Hu
    iexact HO
  iintro ⟨-, Hu, HO⟩
  ihave Hr := (ringMid_end m c 31 (by decide)) $$ Hr
  ihave HO := (owes_end (F := F) c) $$ HO
  ihave Hu := (upto_end (fun h => (cred (tallyAt (sndC c h) () N) : sProp 𝕄))) $$ Hu
  ihave HS := (recvSt_start m c) $$ [HO Hrc]
  · isplitl [HO]; · iexact HO
    iexact Hrc
  iapply (wp_recvWait m κ c (⟨1, by decide⟩ : Fin 32) (by decide) (rcvQ_eq ⟨1, by decide⟩ rfl _) (by rfl)) $$ [HS]
  · isplitr; · iexact HC'
    iexact HS
  iintro HS
  iapply (wp_recvWait m κ c (⟨2, by decide⟩ : Fin 32) (by decide) (rcvQ_eq ⟨2, by decide⟩ rfl _) (by rfl)) $$ [HS]
  · isplitr; · iexact HC'
    iexact HS
  iintro HS
  iapply (wp_recvWait m κ c (⟨3, by decide⟩ : Fin 32) (by decide) (rcvQ_eq ⟨3, by decide⟩ rfl _) (by rfl)) $$ [HS]
  · isplitr; · iexact HC'
    iexact HS
  iintro HS
  iapply (wp_recvWait m κ c (⟨4, by decide⟩ : Fin 32) (by decide) (rcvQ_eq ⟨4, by decide⟩ rfl _) (by rfl)) $$ [HS]
  · isplitr; · iexact HC'
    iexact HS
  iintro HS
  iapply (wp_recvWait m κ c (⟨5, by decide⟩ : Fin 32) (by decide) (rcvQ_eq ⟨5, by decide⟩ rfl _) (by rfl)) $$ [HS]
  · isplitr; · iexact HC'
    iexact HS
  iintro HS
  iapply (wp_recvWait m κ c (⟨6, by decide⟩ : Fin 32) (by decide) (rcvQ_eq ⟨6, by decide⟩ rfl _) (by rfl)) $$ [HS]
  · isplitr; · iexact HC'
    iexact HS
  iintro HS
  iapply (wp_recvWait m κ c (⟨7, by decide⟩ : Fin 32) (by decide) (rcvQ_eq ⟨7, by decide⟩ rfl _) (by rfl)) $$ [HS]
  · isplitr; · iexact HC'
    iexact HS
  iintro HS
  iapply (wp_recvWait m κ c (⟨8, by decide⟩ : Fin 32) (by decide) (rcvQ_eq ⟨8, by decide⟩ rfl _) (by rfl)) $$ [HS]
  · isplitr; · iexact HC'
    iexact HS
  iintro HS
  iapply (wp_recvWait m κ c (⟨9, by decide⟩ : Fin 32) (by decide) (rcvQ_eq ⟨9, by decide⟩ rfl _) (by rfl)) $$ [HS]
  · isplitr; · iexact HC'
    iexact HS
  iintro HS
  iapply (wp_recvWait m κ c (⟨10, by decide⟩ : Fin 32) (by decide) (rcvQ_eq ⟨10, by decide⟩ rfl _) (by rfl)) $$ [HS]
  · isplitr; · iexact HC'
    iexact HS
  iintro HS
  iapply (wp_recvWait m κ c (⟨11, by decide⟩ : Fin 32) (by decide) (rcvQ_eq ⟨11, by decide⟩ rfl _) (by rfl)) $$ [HS]
  · isplitr; · iexact HC'
    iexact HS
  iintro HS
  iapply (wp_recvWait m κ c (⟨12, by decide⟩ : Fin 32) (by decide) (rcvQ_eq ⟨12, by decide⟩ rfl _) (by rfl)) $$ [HS]
  · isplitr; · iexact HC'
    iexact HS
  iintro HS
  iapply (wp_recvWait m κ c (⟨13, by decide⟩ : Fin 32) (by decide) (rcvQ_eq ⟨13, by decide⟩ rfl _) (by rfl)) $$ [HS]
  · isplitr; · iexact HC'
    iexact HS
  iintro HS
  iapply (wp_recvWait m κ c (⟨14, by decide⟩ : Fin 32) (by decide) (rcvQ_eq ⟨14, by decide⟩ rfl _) (by rfl)) $$ [HS]
  · isplitr; · iexact HC'
    iexact HS
  iintro HS
  iapply (wp_recvWait m κ c (⟨15, by decide⟩ : Fin 32) (by decide) (rcvQ_eq ⟨15, by decide⟩ rfl _) (by rfl)) $$ [HS]
  · isplitr; · iexact HC'
    iexact HS
  iintro HS
  iapply (wp_recvWait m κ c (⟨16, by decide⟩ : Fin 32) (by decide) (rcvQ_eq ⟨16, by decide⟩ rfl _) (by rfl)) $$ [HS]
  · isplitr; · iexact HC'
    iexact HS
  iintro HS
  iapply (wp_recvWait m κ c (⟨17, by decide⟩ : Fin 32) (by decide) (rcvQ_eq ⟨17, by decide⟩ rfl _) (by rfl)) $$ [HS]
  · isplitr; · iexact HC'
    iexact HS
  iintro HS
  iapply (wp_recvWait m κ c (⟨18, by decide⟩ : Fin 32) (by decide) (rcvQ_eq ⟨18, by decide⟩ rfl _) (by rfl)) $$ [HS]
  · isplitr; · iexact HC'
    iexact HS
  iintro HS
  iapply (wp_recvWait m κ c (⟨19, by decide⟩ : Fin 32) (by decide) (rcvQ_eq ⟨19, by decide⟩ rfl _) (by rfl)) $$ [HS]
  · isplitr; · iexact HC'
    iexact HS
  iintro HS
  iapply (wp_recvWait m κ c (⟨20, by decide⟩ : Fin 32) (by decide) (rcvQ_eq ⟨20, by decide⟩ rfl _) (by rfl)) $$ [HS]
  · isplitr; · iexact HC'
    iexact HS
  iintro HS
  iapply (wp_recvWait m κ c (⟨21, by decide⟩ : Fin 32) (by decide) (rcvQ_eq ⟨21, by decide⟩ rfl _) (by rfl)) $$ [HS]
  · isplitr; · iexact HC'
    iexact HS
  iintro HS
  iapply (wp_recvWait m κ c (⟨22, by decide⟩ : Fin 32) (by decide) (rcvQ_eq ⟨22, by decide⟩ rfl _) (by rfl)) $$ [HS]
  · isplitr; · iexact HC'
    iexact HS
  iintro HS
  iapply (wp_recvWait m κ c (⟨23, by decide⟩ : Fin 32) (by decide) (rcvQ_eq ⟨23, by decide⟩ rfl _) (by rfl)) $$ [HS]
  · isplitr; · iexact HC'
    iexact HS
  iintro HS
  iapply (wp_recvWait m κ c (⟨24, by decide⟩ : Fin 32) (by decide) (rcvQ_eq ⟨24, by decide⟩ rfl _) (by rfl)) $$ [HS]
  · isplitr; · iexact HC'
    iexact HS
  iintro HS
  iapply (wp_recvWait m κ c (⟨25, by decide⟩ : Fin 32) (by decide) (rcvQ_eq ⟨25, by decide⟩ rfl _) (by rfl)) $$ [HS]
  · isplitr; · iexact HC'
    iexact HS
  iintro HS
  iapply (wp_recvWait m κ c (⟨26, by decide⟩ : Fin 32) (by decide) (rcvQ_eq ⟨26, by decide⟩ rfl _) (by rfl)) $$ [HS]
  · isplitr; · iexact HC'
    iexact HS
  iintro HS
  iapply (wp_recvWait m κ c (⟨27, by decide⟩ : Fin 32) (by decide) (rcvQ_eq ⟨27, by decide⟩ rfl _) (by rfl)) $$ [HS]
  · isplitr; · iexact HC'
    iexact HS
  iintro HS
  iapply (wp_recvWait m κ c (⟨28, by decide⟩ : Fin 32) (by decide) (rcvQ_eq ⟨28, by decide⟩ rfl _) (by rfl)) $$ [HS]
  · isplitr; · iexact HC'
    iexact HS
  iintro HS
  iapply (wp_recvWait m κ c (⟨29, by decide⟩ : Fin 32) (by decide) (rcvQ_eq ⟨29, by decide⟩ rfl _) (by rfl)) $$ [HS]
  · isplitr; · iexact HC'
    iexact HS
  iintro HS
  iapply (wp_recvWait m κ c (⟨30, by decide⟩ : Fin 32) (by decide) (rcvQ_eq ⟨30, by decide⟩ rfl _) (by rfl)) $$ [HS]
  · isplitr; · iexact HC'
    iexact HS
  iintro HS
  iapply (wp_recvWait m κ c (⟨31, by decide⟩ : Fin 32) (by decide) (rcvQ_eq ⟨31, by decide⟩ rfl _) (by rfl)) $$ [HS]
  · isplitr; · iexact HC'
    iexact HS
  iintro HS
  ihave HS := (recvSt_end m c) $$ HS
  icases HS with ⟨HO, HR⟩
  ihave HS := (sendSt_start (F := F) c) $$ [HO Hsn Hu]
  · isplitl [HO]; · iexact HO
    isplitl [Hsn]; · iexact Hsn
    iexact Hu
  iapply (wp_sendWait m κ c (⟨1, by decide⟩ : Fin 32) (by decide) (sndQ_eq ⟨1, by decide⟩ rfl _) (by rfl)) $$ [HS]
  · isplitr; · iexact HC'
    iexact HS
  iintro HS
  iapply (wp_sendWait m κ c (⟨2, by decide⟩ : Fin 32) (by decide) (sndQ_eq ⟨2, by decide⟩ rfl _) (by rfl)) $$ [HS]
  · isplitr; · iexact HC'
    iexact HS
  iintro HS
  iapply (wp_sendWait m κ c (⟨3, by decide⟩ : Fin 32) (by decide) (sndQ_eq ⟨3, by decide⟩ rfl _) (by rfl)) $$ [HS]
  · isplitr; · iexact HC'
    iexact HS
  iintro HS
  iapply (wp_sendWait m κ c (⟨4, by decide⟩ : Fin 32) (by decide) (sndQ_eq ⟨4, by decide⟩ rfl _) (by rfl)) $$ [HS]
  · isplitr; · iexact HC'
    iexact HS
  iintro HS
  iapply (wp_sendWait m κ c (⟨5, by decide⟩ : Fin 32) (by decide) (sndQ_eq ⟨5, by decide⟩ rfl _) (by rfl)) $$ [HS]
  · isplitr; · iexact HC'
    iexact HS
  iintro HS
  iapply (wp_sendWait m κ c (⟨6, by decide⟩ : Fin 32) (by decide) (sndQ_eq ⟨6, by decide⟩ rfl _) (by rfl)) $$ [HS]
  · isplitr; · iexact HC'
    iexact HS
  iintro HS
  iapply (wp_sendWait m κ c (⟨7, by decide⟩ : Fin 32) (by decide) (sndQ_eq ⟨7, by decide⟩ rfl _) (by rfl)) $$ [HS]
  · isplitr; · iexact HC'
    iexact HS
  iintro HS
  iapply (wp_sendWait m κ c (⟨8, by decide⟩ : Fin 32) (by decide) (sndQ_eq ⟨8, by decide⟩ rfl _) (by rfl)) $$ [HS]
  · isplitr; · iexact HC'
    iexact HS
  iintro HS
  iapply (wp_sendWait m κ c (⟨9, by decide⟩ : Fin 32) (by decide) (sndQ_eq ⟨9, by decide⟩ rfl _) (by rfl)) $$ [HS]
  · isplitr; · iexact HC'
    iexact HS
  iintro HS
  iapply (wp_sendWait m κ c (⟨10, by decide⟩ : Fin 32) (by decide) (sndQ_eq ⟨10, by decide⟩ rfl _) (by rfl)) $$ [HS]
  · isplitr; · iexact HC'
    iexact HS
  iintro HS
  iapply (wp_sendWait m κ c (⟨11, by decide⟩ : Fin 32) (by decide) (sndQ_eq ⟨11, by decide⟩ rfl _) (by rfl)) $$ [HS]
  · isplitr; · iexact HC'
    iexact HS
  iintro HS
  iapply (wp_sendWait m κ c (⟨12, by decide⟩ : Fin 32) (by decide) (sndQ_eq ⟨12, by decide⟩ rfl _) (by rfl)) $$ [HS]
  · isplitr; · iexact HC'
    iexact HS
  iintro HS
  iapply (wp_sendWait m κ c (⟨13, by decide⟩ : Fin 32) (by decide) (sndQ_eq ⟨13, by decide⟩ rfl _) (by rfl)) $$ [HS]
  · isplitr; · iexact HC'
    iexact HS
  iintro HS
  iapply (wp_sendWait m κ c (⟨14, by decide⟩ : Fin 32) (by decide) (sndQ_eq ⟨14, by decide⟩ rfl _) (by rfl)) $$ [HS]
  · isplitr; · iexact HC'
    iexact HS
  iintro HS
  iapply (wp_sendWait m κ c (⟨15, by decide⟩ : Fin 32) (by decide) (sndQ_eq ⟨15, by decide⟩ rfl _) (by rfl)) $$ [HS]
  · isplitr; · iexact HC'
    iexact HS
  iintro HS
  iapply (wp_sendWait m κ c (⟨16, by decide⟩ : Fin 32) (by decide) (sndQ_eq ⟨16, by decide⟩ rfl _) (by rfl)) $$ [HS]
  · isplitr; · iexact HC'
    iexact HS
  iintro HS
  iapply (wp_sendWait m κ c (⟨17, by decide⟩ : Fin 32) (by decide) (sndQ_eq ⟨17, by decide⟩ rfl _) (by rfl)) $$ [HS]
  · isplitr; · iexact HC'
    iexact HS
  iintro HS
  iapply (wp_sendWait m κ c (⟨18, by decide⟩ : Fin 32) (by decide) (sndQ_eq ⟨18, by decide⟩ rfl _) (by rfl)) $$ [HS]
  · isplitr; · iexact HC'
    iexact HS
  iintro HS
  iapply (wp_sendWait m κ c (⟨19, by decide⟩ : Fin 32) (by decide) (sndQ_eq ⟨19, by decide⟩ rfl _) (by rfl)) $$ [HS]
  · isplitr; · iexact HC'
    iexact HS
  iintro HS
  iapply (wp_sendWait m κ c (⟨20, by decide⟩ : Fin 32) (by decide) (sndQ_eq ⟨20, by decide⟩ rfl _) (by rfl)) $$ [HS]
  · isplitr; · iexact HC'
    iexact HS
  iintro HS
  iapply (wp_sendWait m κ c (⟨21, by decide⟩ : Fin 32) (by decide) (sndQ_eq ⟨21, by decide⟩ rfl _) (by rfl)) $$ [HS]
  · isplitr; · iexact HC'
    iexact HS
  iintro HS
  iapply (wp_sendWait m κ c (⟨22, by decide⟩ : Fin 32) (by decide) (sndQ_eq ⟨22, by decide⟩ rfl _) (by rfl)) $$ [HS]
  · isplitr; · iexact HC'
    iexact HS
  iintro HS
  iapply (wp_sendWait m κ c (⟨23, by decide⟩ : Fin 32) (by decide) (sndQ_eq ⟨23, by decide⟩ rfl _) (by rfl)) $$ [HS]
  · isplitr; · iexact HC'
    iexact HS
  iintro HS
  iapply (wp_sendWait m κ c (⟨24, by decide⟩ : Fin 32) (by decide) (sndQ_eq ⟨24, by decide⟩ rfl _) (by rfl)) $$ [HS]
  · isplitr; · iexact HC'
    iexact HS
  iintro HS
  iapply (wp_sendWait m κ c (⟨25, by decide⟩ : Fin 32) (by decide) (sndQ_eq ⟨25, by decide⟩ rfl _) (by rfl)) $$ [HS]
  · isplitr; · iexact HC'
    iexact HS
  iintro HS
  iapply (wp_sendWait m κ c (⟨26, by decide⟩ : Fin 32) (by decide) (sndQ_eq ⟨26, by decide⟩ rfl _) (by rfl)) $$ [HS]
  · isplitr; · iexact HC'
    iexact HS
  iintro HS
  iapply (wp_sendWait m κ c (⟨27, by decide⟩ : Fin 32) (by decide) (sndQ_eq ⟨27, by decide⟩ rfl _) (by rfl)) $$ [HS]
  · isplitr; · iexact HC'
    iexact HS
  iintro HS
  iapply (wp_sendWait m κ c (⟨28, by decide⟩ : Fin 32) (by decide) (sndQ_eq ⟨28, by decide⟩ rfl _) (by rfl)) $$ [HS]
  · isplitr; · iexact HC'
    iexact HS
  iintro HS
  iapply (wp_sendWait m κ c (⟨29, by decide⟩ : Fin 32) (by decide) (sndQ_eq ⟨29, by decide⟩ rfl _) (by rfl)) $$ [HS]
  · isplitr; · iexact HC'
    iexact HS
  iintro HS
  iapply (wp_sendWait m κ c (⟨30, by decide⟩ : Fin 32) (by decide) (sndQ_eq ⟨30, by decide⟩ rfl _) (by rfl)) $$ [HS]
  · isplitr; · iexact HC'
    iexact HS
  iintro HS
  iapply (wp_sendWait m κ c (⟨31, by decide⟩ : Fin 32) (by decide) (sndQ_eq ⟨31, by decide⟩ rfl _) (by rfl)) $$ [HS]
  · isplitr; · iexact HC'
    iexact HS
  iintro HS
  ihave HS := (sendSt_end (F := F) c) $$ HS
  icases HS with ⟨HO, HD⟩
  iapply (le_wp_ret _ _ _ _ _)
  iapply HK
  unfold BodyEnd
  isplitl [Hc]; · iexact Hc
  isplitl [Hr]; · iexact Hr
  isplitl [Hown]; · iexact Hown
  isplitl [HR]; · iexact HR
  isplitl [HD]; · iexact HD
  iexact HO

end Cert.A2A
-- ==== Proof.First.lean ====
/-
# The first grid step

The ring is filled, every device is signalled and waited for, and the device's own tile is stored in its rows.
-/
module

public import proofs.«01_k».proof.Proof.Last

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Filling the ring -/

/-- With the first `n` blocks on their way. -/
def RingN (c : Dev nD) (n : ℕ) : sProp 𝕄 :=
  iprop(bigSep (Finset.Ico n 6) (fun b => slotFree (F := F) c (slotOf b)) ∗ bigSep (Finset.Ico 0 n) (ringAt m c) ∗ bigSep (fromN n) (homeAt m c))

theorem ringN_end (c : Dev nD) : RingN m c 6 ⊢ Ring m c 0 := by
  unfold RingN Ring
  rw [below_zero, bigSep_empty, Finset.Ico_self, bigSep_empty]
  iintro ⟨-, Hr, Hf⟩
  isplitl [Hr]; · iexact Hr
  isplitr; · iempintro
  iexact Hf

theorem sep_entails (P R : sProp 𝕄) : BI.sep P R ⊢ iprop(P ∗ R) := .rfl
theorem entails_sep (P R : sProp 𝕄) : iprop(P ∗ R) ⊢ BI.sep P R := .rfl

theorem wp_ringStart (c : Dev nD) (n : ℕ) (hn : n < 6) {o1 : Fin 1 → ℕ} {o2 : Fin 3 → ℕ} {o3 : Fin 2 → ℕ}
    (h1 : o1 = ![n]) (h2 : o2 = ![n, 0, 0]) (h3 : o3 = ![0, 256 * ((c.val + n) % 32)])
    {i1 : ∀ a, o1 a + S1.size a ≤ S6.size a} {i2 : ∀ a, o2 a + S1x4096x256.size a ≤ S6x4096x256.size a}
    {i3 : ∀ a, o3 a + S4096x256.size a ≤ S4096x8192.size a} {hsrc hdst hsem}
    {k : PUnit → Prog (TpuEff nD τ sig (Elt F) Λ₀ .tc) PUnit} {Q : PUnit → sProp 𝕄} :
    RingN m c n
      ⊢ iprop((RingN m c (n + 1) -∗ W c (k ⟨⟩) Q)
          -∗ W c (.op (.enqueueDma (wM.slice (Rect.unit (s := S4096x8192) o3 S4096x256.size i3) (fun _ => rfl))
              (.here ((bM.slice (Rect.unit (s := S6x4096x256) o2 S1x4096x256.size i2) (fun _ => rfl)).squeeze S4096x256 squeezes_S1x4096x256_S4096x256))
              (.dma ((cc0_scratch1.slice (Rect.unit (s := S6) o1 S1.size i1)).squeeze S_ squeezes_S1_S_).sem) hsrc hdst hsem) k) Q) := by
  have hs : n % 6 = n := Nat.mod_eq_of_lt hn
  unfold RingN
  rw [show Finset.Ico n 6 = insert n (Finset.Ico (n + 1) 6) from by ext x; simp only [Finset.mem_Ico, Finset.mem_insert]; omega,
    show Finset.Ico 0 (n + 1) = insert n (Finset.Ico 0 n) from by ext x; simp only [Finset.mem_Ico, Finset.mem_insert]; omega,
    bigSep_insert (by simp), bigSep_insert (by simp), show bigSep (fromN n) (homeAt m c) = _ from bigSep_from ⟨n, by omega⟩ (homeAt m c)]
  iintro ⟨HA, Hr, Hc, Hf⟩ Hk
  ihave HA := (sep_entails _ _) $$ HA
  icases HA with ⟨Hs, Hss⟩
  iapply (wp_wStart m c (slotOf n) (blkOf c n) (o1 := o1) (o2 := o2) (o3 := o3)
    (by rw [h1]; show _ = ![n % 6]; rw [hs]) (by rw [h2]; show _ = ![n % 6, 0, 0]; rw [hs]) h3) $$ [Hs Hc]
  · isplitl [Hs]; · iexact Hs
    unfold homeAt; iexact Hc
  iintro HF
  iapply Hk
  isplitl [Hss]; · iexact Hss
  isplitl [Hr HF]
  · iapply (entails_sep _ _)
    isplitl [HF]; · unfold ringAt; rw [if_pos (by omega)]; iexact HF
    iexact Hr
  iexact Hf

/-! ## After the barrier -/

/-- What step `h` holds of its own before the barrier. -/
def OwnPkt (c h : Fin 32) : sProp 𝕄 :=
  iprop(slabAny (F := F) c h ∗ dutyTok ER (rcvC (c + h : Fin 32) h) 0 0 ∗ dutyTok ER (sndC c h) 0 0 ∗ reached ER (sndC c h) 0)
/-- What its peer hands over. -/
def PeerPkt (c h : Fin 32) : sProp 𝕄 :=
  iprop(rowsAny (F := F) (c + h : Fin 32) c ∗ reached ER (rcvC (c + h : Fin 32) h) 0)

theorem pkt_join (c : Fin 32) :
    iprop(bigSep (fromN 1) (OwnPkt (F := F) c) ∗ bigSep (fromN 1) (PeerPkt (F := F) c)) ⊢ bigSep (fromN 1) (SendPkt (F := F) c) := by
  rw [← show _ = _ from bigSep_sep' (fromN 1) (OwnPkt (F := F) c) (PeerPkt (F := F) c)]
  refine bigSep_mono fun h _ => ?_
  show iprop(OwnPkt (F := F) c h ∗ PeerPkt (F := F) c h) ⊢ SendPkt (F := F) c h
  unfold OwnPkt PeerPkt SendPkt
  iintro ⟨⟨Hs, Hr, Ht, Hd⟩, Hp, HR⟩
  isplitl [Hs]; · iexact Hs
  isplitl [Hp]; · iexact Hp
  isplitl [HR]; · iexact HR
  isplitl [Hr]; · iexact Hr
  isplitl [Ht]; · iexact Ht
  iexact Hd

def addE (c : Fin 32) : Fin 32 ≃ Fin 32 := ⟨fun h => c + h, fun u => u - c, by decide +revert, by decide +revert⟩
theorem add_ne (c h : Fin 32) (h1 : 1 ≤ h.val) : c + h ≠ c := by revert c h; decide
theorem add_sub' (c h : Fin 32) : c + h - c = h := by revert c h; decide

theorem bar_unpack (c : Fin 32) : bigSep Finset.univ (fun u => barPay (F := F) c u) ⊢ bigSep (fromN 1) (PeerPkt (F := F) c) := by
  rw [bigSep_univ_equiv (addE c) (fun u => barPay (F := F) c u), ← fromN_zero, show bigSep (fromN 0) (fun h => barPay (F := F) c (addE c h)) = iprop(_ ∗ bigSep (fromN 1) (fun h => barPay (F := F) c (addE c h))) from bigSep_from (0 : Fin 32) _]
  iintro ⟨-, H⟩
  iapply (show bigSep (fromN 1) (fun h => barPay (F := F) c (addE c h)) ⊢ bigSep (fromN 1) (PeerPkt (F := F) c) from
    bigSep_mono fun h hh => by
      show barPay (F := F) c (c + h) ⊢ _
      unfold barPay PeerPkt
      rw [if_neg (add_ne c h (mem_fromN.mp hh)), add_sub']) $$ H

/-- Before the first step. -/
def Pre0 (c : Fin 32) : sProp 𝕄 :=
  iprop(Const m c ∗ RingN m c 0 ∗ rowsAny (F := F) c c ∗ SigSt (F := F) c 0 ∗ cred (tallyAt (barC c) () 32) ∗ atPos ER (barC c) 0 ∅ 0
    ∗ bigSep (fromN 1) (OwnPkt (F := F) c))

theorem upto_start (Φ : Fin 32 → sProp 𝕄) : (iprop(emp) : sProp 𝕄) ⊢ bigSep (uptoN 1) Φ := by rw [uptoN_one, bigSep_empty]; exact .rfl

theorem body_first (κ : GSem nD τ sig → ℕ) (c : Fin 32) (i : grid0.Coords) (hi : i 0 = (⟨0, by decide⟩ : Fin 32)) (K : PUnit → sProp 𝕄) :
    iprop(Ctx m κ ∗ levAts L lv ∗ Pre0 m c ∗ (iprop(BodySt m c 1 ∗ atPos ER (barC c) 1 ∅ 0) -∗ K ⟨⟩)) ⊢ W c (bodyP i) K := by
  have n1 : k0_cond1 i = 1#1 := by rw [cond1_iff, hi]
  have n2 : k0_cond2 i = 1#1 := by rw [cond2_iff, hi]
  have n3 : ¬ k0_cond3 i = 1#1 := by rw [cond3_iff, hi]; decide
  have n4 : k0_cond4 i = 1#1 := by rw [cond4_iff, hi]; decide
  have n5 : ¬ k0_cond5 i = 1#1 := by rw [cond5_iff, hi]; decide
  unfold bodyP
  rw [cc0_body_eq_skeleton]; unfold cc0_body_skel
  simp only [k0_part28_eq_skeleton, k0_part28_skel, k0_part1_eq_skeleton, k0_part1_skel, k0_part2_eq_skeleton, k0_part2_skel, k0_part3_eq_skeleton, k0_part3_skel, k0_part4_eq_skeleton, k0_part4_skel, k0_part5_eq_skeleton, k0_part5_skel,
    semSignalWord, semWaitWord, smemLoad, smemLoadElt, Prog.lift, Prog.bind_op, Prog.bind_ret, Prog.pure_eq_ret, wp_deviceId, dif_pos n1, dif_pos n2, dif_neg n3, dif_pos n4, dif_neg n5]
  unfold Pre0
  iintro ⟨HC, #Hl, ⟨Hc, Hr, Hown, HS, Hcr, Hat, Hpk⟩, HK⟩
  ihave #HC' := (show Ctx m κ ⊢ Ctx m κ from .rfl) $$ HC
  iapply (wp_ringStart m c 0 (by decide) (k0_off1_eq 0) (k0_off2_eq 0) (k0_off3_eq c 0)) $$ Hr
  iintro Hr
  iapply (wp_ringStart m c 1 (by decide) (k0_off1_eq 1) (k0_off2_eq 1) (k0_off3_eq c 1)) $$ Hr
  iintro Hr
  iapply (wp_ringStart m c 2 (by decide) (k0_off1_eq 2) (k0_off2_eq 2) (k0_off3_eq c 2)) $$ Hr
  iintro Hr
  iapply (wp_ringStart m c 3 (by decide) (k0_off1_eq 3) (k0_off2_eq 3) (k0_off3_eq c 3)) $$ Hr
  iintro Hr
  iapply (wp_ringStart m c 4 (by decide) (k0_off1_eq 4) (k0_off2_eq 4) (k0_off3_eq c 4)) $$ Hr
  iintro Hr
  iapply (wp_ringStart m c 5 (by decide) (k0_off1_eq 5) (k0_off2_eq 5) (k0_off3_eq c 5)) $$ Hr
  iintro Hr
  ihave Hr := (ringN_end m c) $$ Hr
  iapply (wp_sig m κ c (⟨0, by decide⟩ : Fin 32) (congrArg Dev.tc (Fin.ext k0_dev1_eq)) (by decide) rfl) $$ [HS]
  · isplitr; · iexact HC'
    iexact HS
  iintro HS
  iapply (wp_sig m κ c (⟨1, by decide⟩ : Fin 32) (congrArg Dev.tc (Fin.ext k0_dev2_eq)) (by decide) rfl) $$ [HS]
  · isplitr; · iexact HC'
    iexact HS
  iintro HS
  iapply (wp_sig m κ c (⟨2, by decide⟩ : Fin 32) (congrArg Dev.tc (Fin.ext k0_dev3_eq)) (by decide) rfl) $$ [HS]
  · isplitr; · iexact HC'
    iexact HS
  iintro HS
  iapply (wp_sig m κ c (⟨3, by decide⟩ : Fin 32) (congrArg Dev.tc (Fin.ext k0_dev4_eq)) (by decide) rfl) $$ [HS]
  · isplitr; · iexact HC'
    iexact HS
  iintro HS
  iapply (wp_sig m κ c (⟨4, by decide⟩ : Fin 32) (congrArg Dev.tc (Fin.ext k0_dev5_eq)) (by decide) rfl) $$ [HS]
  · isplitr; · iexact HC'
    iexact HS
  iintro HS
  iapply (wp_sig m κ c (⟨5, by decide⟩ : Fin 32) (congrArg Dev.tc (Fin.ext k0_dev6_eq)) (by decide) rfl) $$ [HS]
  · isplitr; · iexact HC'
    iexact HS
  iintro HS
  iapply (wp_sig m κ c (⟨6, by decide⟩ : Fin 32) (congrArg Dev.tc (Fin.ext k0_dev7_eq)) (by decide) rfl) $$ [HS]
  · isplitr; · iexact HC'
    iexact HS
  iintro HS
  iapply (wp_sig m κ c (⟨7, by decide⟩ : Fin 32) (congrArg Dev.tc (Fin.ext k0_dev8_eq)) (by decide) rfl) $$ [HS]
  · isplitr; · iexact HC'
    iexact HS
  iintro HS
  iapply (wp_sig m κ c (⟨8, by decide⟩ : Fin 32) (congrArg Dev.tc (Fin.ext k0_dev9_eq)) (by decide) rfl) $$ [HS]
  · isplitr; · iexact HC'
    iexact HS
  iintro HS
  iapply (wp_sig m κ c (⟨9, by decide⟩ : Fin 32) (congrArg Dev.tc (Fin.ext k0_dev10_eq)) (by decide) rfl) $$ [HS]
  · isplitr; · iexact HC'
    iexact HS
  iintro HS
  iapply (wp_sig m κ c (⟨10, by decide⟩ : Fin 32) (congrArg Dev.tc (Fin.ext k0_dev11_eq)) (by decide) rfl) $$ [HS]
  · isplitr; · iexact HC'
    iexact HS
  iintro HS
  iapply (wp_sig m κ c (⟨11, by decide⟩ : Fin 32) (congrArg Dev.tc (Fin.ext k0_dev12_eq)) (by decide) rfl) $$ [HS]
  · isplitr; · iexact HC'
    iexact HS
  iintro HS
  iapply (wp_sig m κ c (⟨12, by decide⟩ : Fin 32) (congrArg Dev.tc (Fin.ext k0_dev13_eq)) (by decide) rfl) $$ [HS]
  · isplitr; · iexact HC'
    iexact HS
  iintro HS
  iapply (wp_sig m κ c (⟨13, by decide⟩ : Fin 32) (congrArg Dev.tc (Fin.ext k0_dev14_eq)) (by decide) rfl) $$ [HS]
  · isplitr; · iexact HC'
    iexact HS
  iintro HS
  iapply (wp_sig m κ c (⟨14, by decide⟩ : Fin 32) (congrArg Dev.tc (Fin.ext k0_dev15_eq)) (by decide) rfl) $$ [HS]
  · isplitr; · iexact HC'
    iexact HS
  iintro HS
  iapply (wp_sig m κ c (⟨15, by decide⟩ : Fin 32) (congrArg Dev.tc (Fin.ext k0_dev16_eq)) (by decide) rfl) $$ [HS]
  · isplitr; · iexact HC'
    iexact HS
  iintro HS
  iapply (wp_sig m κ c (⟨16, by decide⟩ : Fin 32) (congrArg Dev.tc (Fin.ext k0_dev17_eq)) (by decide) rfl) $$ [HS]
  · isplitr; · iexact HC'
    iexact HS
  iintro HS
  iapply (wp_sig m κ c (⟨17, by decide⟩ : Fin 32) (congrArg Dev.tc (Fin.ext k0_dev18_eq)) (by decide) rfl) $$ [HS]
  · isplitr; · iexact HC'
    iexact HS
  iintro HS
  iapply (wp_sig m κ c (⟨18, by decide⟩ : Fin 32) (congrArg Dev.tc (Fin.ext k0_dev19_eq)) (by decide) rfl) $$ [HS]
  · isplitr; · iexact HC'
    iexact HS
  iintro HS
  iapply (wp_sig m κ c (⟨19, by decide⟩ : Fin 32) (congrArg Dev.tc (Fin.ext k0_dev20_eq)) (by decide) rfl) $$ [HS]
  · isplitr; · iexact HC'
    iexact HS
  iintro HS
  iapply (wp_sig m κ c (⟨20, by decide⟩ : Fin 32) (congrArg Dev.tc (Fin.ext k0_dev21_eq)) (by decide) rfl) $$ [HS]
  · isplitr; · iexact HC'
    iexact HS
  iintro HS
  iapply (wp_sig m κ c (⟨21, by decide⟩ : Fin 32) (congrArg Dev.tc (Fin.ext k0_dev22_eq)) (by decide) rfl) $$ [HS]
  · isplitr; · iexact HC'
    iexact HS
  iintro HS
  iapply (wp_sig m κ c (⟨22, by decide⟩ : Fin 32) (congrArg Dev.tc (Fin.ext k0_dev23_eq)) (by decide) rfl) $$ [HS]
  · isplitr; · iexact HC'
    iexact HS
  iintro HS
  iapply (wp_sig m κ c (⟨23, by decide⟩ : Fin 32) (congrArg Dev.tc (Fin.ext k0_dev24_eq)) (by decide) rfl) $$ [HS]
  · isplitr; · iexact HC'
    iexact HS
  iintro HS
  iapply (wp_sig m κ c (⟨24, by decide⟩ : Fin 32) (congrArg Dev.tc (Fin.ext k0_dev25_eq)) (by decide) rfl) $$ [HS]
  · isplitr; · iexact HC'
    iexact HS
  iintro HS
  iapply (wp_sig m κ c (⟨25, by decide⟩ : Fin 32) (congrArg Dev.tc (Fin.ext k0_dev26_eq)) (by decide) rfl) $$ [HS]
  · isplitr; · iexact HC'
    iexact HS
  iintro HS
  iapply (wp_sig m κ c (⟨26, by decide⟩ : Fin 32) (congrArg Dev.tc (Fin.ext k0_dev27_eq)) (by decide) rfl) $$ [HS]
  · isplitr; · iexact HC'
    iexact HS
  iintro HS
  iapply (wp_sig m κ c (⟨27, by decide⟩ : Fin 32) (congrArg Dev.tc (Fin.ext k0_dev28_eq)) (by decide) rfl) $$ [HS]
  · isplitr; · iexact HC'
    iexact HS
  iintro HS
  iapply (wp_sig m κ c (⟨28, by decide⟩ : Fin 32) (congrArg Dev.tc (Fin.ext k0_dev29_eq)) (by decide) rfl) $$ [HS]
  · isplitr; · iexact HC'
    iexact HS
  iintro HS
  iapply (wp_sig m κ c (⟨29, by decide⟩ : Fin 32) (congrArg Dev.tc (Fin.ext k0_dev30_eq)) (by decide) rfl) $$ [HS]
  · isplitr; · iexact HC'
    iexact HS
  iintro HS
  iapply (wp_sig m κ c (⟨30, by decide⟩ : Fin 32) (congrArg Dev.tc (Fin.ext k0_dev31_eq)) (by decide) rfl) $$ [HS]
  · isplitr; · iexact HC'
    iexact HS
  iintro HS
  iapply (wp_sig m κ c (⟨31, by decide⟩ : Fin 32) (congrArg Dev.tc (Fin.ext k0_dev32_eq)) (by decide) rfl) $$ [HS]
  · isplitr; · iexact HC'
    iexact HS
  iintro HS
  iapply (wp_barWait m κ c (by decide) rfl) $$ [HS Hcr Hat]
  · isplitr; · iexact HC'
    isplitl [HS]; · iexact HS
    isplitr; · iexact Hl
    isplitl [Hcr]; · iexact Hcr
    iexact Hat
  iintro ⟨HO, Hp, Hat⟩
  ihave Hp := (bar_unpack (F := F) c) $$ Hp
  ihave Hpk := (pkt_join (F := F) c) $$ [Hpk Hp]
  · isplitl [Hpk]; · iexact Hpk
    iexact Hp
  iapply (wp_operands m c 0 (by decide) ((k0_off4_eq i).trans (by rw [hi])) ((k0_off7_eq i).trans (by rw [hi])) (hO_low c c _)) $$ [Hc Hr HO]
  · isplitl [Hc]; · iexact Hc
    isplitl [Hr]; · iexact Hr
    isplitl [HO]; · iexact HO
    iexact Hl
  iintro ⟨Hc, Hr, HO⟩
  rw [tile_eq, show blkOf c 0 = c from (show ∀ c : Fin 32, blkOf c 0 = c by decide) c]
  iapply (wp_rowStore c (tile m c c) (k0_off8_eq c)) $$ Hown
  iintro Hown
  iapply (wp_refill m c 0 (by decide) ((k0_off13_eq i).trans (by rw [hi])) ((k0_off14_eq i).trans (by rw [hi])) ((k0_off15_eq i c).trans (by rw [hi]; rfl))) $$ Hr
  iintro Hr
  iapply (le_wp_ret _ _ _ _ _)
  iapply HK
  isplitr [Hat]
  rotate_left
  · iexact Hat
  unfold BodySt
  isplitl [Hc]; · iexact Hc
  isplitl [Hr]; · iexact Hr
  isplitl [Hown]; · unfold rowsAt; iexact Hown
  isplitl [Hpk]; · iexact Hpk
  isplitr; · iapply (upto_start _); iempintro
  iexact HO

end Cert.A2A
-- ==== Proof.Loop.lean ====
/-
# The iterations of the grid

Iteration 0 does nothing; iteration 1 stages the operands and runs the first step; iterations 2 to 31 run a step each;
iteration 32 runs the last step and writes the result back; iteration 33 returns.
-/
module

public import proofs.«01_k».proof.Proof.First

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The iterations' programs -/

/-- The admissible contents of the tables: there are none. -/
abbrev AdmK : Fin 1 → Type := fun p => (pcfgs (F := F) p).Adm
abbrev LP : Type 1 := Prog (TpuEff nD τ sig (Elt F) (Pipeline.Sig Λ₀ (Fin 1) (AdmK (F := F))) .tc) PUnit

section Shapes

open Pipeline

theorem eachWin_none (p : Fin cfg0.W → Bool) (f : Fin cfg0.W → LP (F := F) → LP (F := F)) (k : LP (F := F)) (hp : ∀ w, p w = false) :
    cfg0.eachWin p f k = k := by
  unfold Cfg.eachWin
  have : ∀ l : List (Fin cfg0.W), l.foldr (fun w k => if p w then f w k else k) k = k := by
    intro l; induction l with
    | nil => rfl
    | cons w l ih => rw [List.foldr_cons, ih, hp w]; rfl
  exact this _

theorem atPoint_at (t d : ℕ) (u : Fin cfg0.N) (h : t = u.val + d) (f : Fin cfg0.N → LP (F := F) → LP (F := F)) (k : LP (F := F)) :
    cfg0.atPoint t d f k = f u k := by
  subst h
  have hp : cfg0.point (u.val + d) d = some u := by
    unfold Cfg.point
    rw [dif_pos ⟨Nat.le_add_left _ _, by rw [Nat.add_sub_cancel]; exact u.isLt⟩]
    exact congrArg some (Fin.ext (Nat.add_sub_cancel _ _))
  unfold Cfg.atPoint; rw [hp]
theorem atPoint_not (t d : ℕ) (h : ¬ (d ≤ t ∧ t - d < cfg0.N)) (f : Fin cfg0.N → LP (F := F) → LP (F := F)) (k : LP (F := F)) :
    cfg0.atPoint t d f k = k := by
  unfold Cfg.atPoint Cfg.point; rw [dif_neg h]

theorem N32 : cfg0.N = 32 := N_0
theorem single_all (w : Fin cfg0.W) : (cfg0.win w).single = true := by revert w; decide
theorem prologue_one : cfg0.prologue = 1 := by decide
theorem trip : cfg0.tripCount = 34 := by
  unfold Cfg.tripCount; rw [N32, prologue_one, show cfg0.epilogue = 1 from by decide]
theorem fetch_not (t : Fin cfg0.N) (h : 1 ≤ t.val) (w : Fin cfg0.W) : (cfg0.win w).fetch t = false := by
  have hN := N32
  have := t.isLt
  match w with
  | 0 => rw [Bool.eq_false_iff, ne_eq, fetch0_0]; omega
  | 1 => rw [Bool.eq_false_iff, ne_eq, fetch0_1]; omega
  | 2 => rw [Bool.eq_false_iff, ne_eq, fetch0_2]; omega
  | 3 => rfl
theorem flush_not (t : Fin cfg0.N) (h : t.val ≤ 30) (w : Fin cfg0.W) : (cfg0.win w).flush t = false := by
  match w with
  | 0 => rfl
  | 1 => rfl
  | 2 => rfl
  | 3 => rw [Bool.eq_false_iff, ne_eq, flush0_3]; omega

/-- The call of the body at a point, then `k`. -/
abbrev stepCall (t : Fin cfg0.N) (k : LP (F := F)) : LP (F := F) := .op (.call (kernel cfg0.body) (cfg0.bodyArgs t (cfg0.slots t))) fun _ => k
/-- The call of the next iteration. -/
abbrev nextCall (a : AdmK (F := F) 0) (l : ℕ) : LP (F := F) := .op (.call (pipe 0) (a, l)) fun _ => .ret ⟨⟩

theorem iter_first (a : AdmK (F := F) 0) : (cfg0.iter 0 a 0 : LP (F := F)) = nextCall a 1 := by
  unfold Cfg.iter
  rw [prologue_one, trip, atPoint_not 0 1 (by omega), atPoint_at 0 0 ⟨0, by decide⟩ rfl, atPoint_not 0 1 (by omega), atPoint_not 0 2 (by omega),
    eachWin_none _ _ _ (fun w => by rw [single_all]; rfl), if_pos (by decide)]

theorem iter_mid (a : AdmK (F := F) 0) (t : Fin cfg0.N) (h1 : 1 ≤ t.val) (h2 : t.val ≤ 30) :
    (cfg0.iter 0 a (t.val + 1) : LP (F := F)) = stepCall t (nextCall a (t.val + 2)) := by
  have hN := N32
  unfold Cfg.iter
  rw [prologue_one, trip, atPoint_at (t.val + 1) 1 t rfl, atPoint_at (t.val + 1) 0 ⟨t.val + 1, by omega⟩ rfl, atPoint_at (t.val + 1) 1 t rfl,
    atPoint_at (t.val + 1) 2 ⟨t.val - 1, by omega⟩ (by show t.val + 1 = t.val - 1 + 2; omega),
    eachWin_none _ _ _ (fun w => by rw [fetch_not t h1, Bool.and_false]),
    eachWin_none _ _ _ (fun w => by rw [single_all]; rfl),
    eachWin_none _ _ _ (fun w => fetch_not t h1 w), eachWin_none _ _ _ (fun w => flush_not t h2 w),
    eachWin_none _ _ _ (fun w => by rw [flush_not t h2, Bool.and_false]),
    eachWin_none _ _ _ (fun w => by rw [single_all]; rfl), if_pos (by omega)]

theorem iter_one (a : AdmK (F := F) 0) :
    (cfg0.iter 0 a 1 : LP (F := F)) =
      .op (cfg0.startIn 0 ⟨0, by decide⟩) fun _ => .op (cfg0.startIn 1 ⟨0, by decide⟩) fun _ => .op (cfg0.startIn 2 ⟨0, by decide⟩) fun _ =>
      .op (cfg0.waitIn 0 ⟨0, by decide⟩) fun _ => .op (cfg0.waitIn 1 ⟨0, by decide⟩) fun _ => .op (cfg0.waitIn 2 ⟨0, by decide⟩) fun _ =>
      stepCall ⟨0, by decide⟩ (nextCall a 2) := by
  unfold Cfg.iter
  rw [prologue_one, trip, atPoint_at 1 1 ⟨0, by decide⟩ rfl, atPoint_at 1 0 ⟨1, by decide⟩ rfl, atPoint_at 1 1 ⟨0, by decide⟩ rfl,
    atPoint_not 1 2 (by omega),
    eachWin_none (fun w => !(cfg0.win w).single && _) _ _ (fun w => by rw [single_all]; rfl),
    eachWin_none (fun w => (cfg0.win w).flush _) _ _ (fun w => flush_not _ (by decide) w),
    eachWin_none (fun w => (cfg0.win w).single && (cfg0.win w).flush _) _ _ (fun w => by rw [flush_not _ (by decide), Bool.and_false]), if_pos (by omega)]
  rfl

theorem iter_last (a : AdmK (F := F) 0) :
    (cfg0.iter 0 a 32 : LP (F := F)) = stepCall ⟨31, by decide⟩
      (.op (cfg0.startOut 3 ⟨31, by decide⟩) fun _ => .op (cfg0.waitOut 3 ⟨31, by decide⟩) fun _ => nextCall a 33) := by
  unfold Cfg.iter
  rw [prologue_one, trip, atPoint_at 32 1 ⟨31, by decide⟩ rfl, atPoint_not 32 0 (by rw [N32]; omega), atPoint_at 32 1 ⟨31, by decide⟩ rfl,
    atPoint_at 32 2 ⟨30, by decide⟩ rfl,
    eachWin_none (fun w => (cfg0.win w).single && (cfg0.win w).fetch _) _ _ (fun w => by rw [fetch_not _ (by decide), Bool.and_false]),
    eachWin_none (fun w => (cfg0.win w).fetch _) _ _ (fun w => fetch_not _ (by decide) w),
    eachWin_none (fun w => !(cfg0.win w).single && _) _ _ (fun w => by rw [single_all]; rfl), if_pos (by omega)]
  rfl

theorem iter_end (a : AdmK (F := F) 0) : (cfg0.iter 0 a 33 : LP (F := F)) = .ret ⟨⟩ := by
  unfold Cfg.iter
  rw [prologue_one, trip, atPoint_not 33 1 (by rw [N32]; omega), atPoint_not 33 0 (by rw [N32]; omega), atPoint_not 33 1 (by rw [N32]; omega),
    atPoint_at 33 2 ⟨31, by decide⟩ rfl,
    eachWin_none (fun w => !(cfg0.win w).single && _) _ _ (fun w => by rw [single_all]; rfl), if_neg (by omega)]

end Shapes

end Cert.A2A
-- ==== Proof.Stage.lean ====
/-
# The operands' staging and the result's write-back

The transfers at the two ends of the grid move whole buffers: the three staged operands in, the result out.
-/
module

public import proofs.«01_k».proof.Proof.Loop

@[expose] public section
noncomputable section
namespace Cert.A2A
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Wps

open Pipeline

/-- The weakest precondition over the program with its loop. -/
abbrev WL (c : Dev nD) (bd : Option (Variants.lift 𝒱₀).V) (p : LP (F := F)) (Q : PUnit → sProp 𝕄) : sProp 𝕄 :=
  wp frame (wpE (defs (F := F)) (Variants.lift 𝒱₀) (c : Thread nD τ) bd) Set.univ p Q

theorem body_eq' (i : grid0.Coords) {x : Memref sig .tc .vmem S128x4096 .fp8e4m3} {hx} {sx sw : Memref sig .tc .smem S1 .f32} {hsx hsw}
    {o : Memref sig .tc .vmem S4096x256 .f32} {ho} (e1 : x = xM) (e2 : sx = sxM) (e3 : sw = swM) (e4 : o = oM) :
    cc0_body (F := F) i x hx wM (Memref.isWhole_whole _) sx hsx sw hsw o ho bM (Memref.isWhole_whole _) cc0_scratch1 yM (Memref.isWhole_whole _) cc0_scratch3 cc0_scratch4
      = bodyP i := by
  subst e1 e2 e3 e4; rfl
theorem stage_eq0 (s : Fin win0_0.nbuf) : win0_0.stage s = xM := by revert s; intro s; match s with | ⟨0, _⟩ => rfl
theorem stage_eq1 (s : Fin win0_1.nbuf) : win0_1.stage s = sxM := by revert s; intro s; match s with | ⟨0, _⟩ => rfl
theorem stage_eq2 (s : Fin win0_2.nbuf) : win0_2.stage s = swM := by revert s; intro s; match s with | ⟨0, _⟩ => rfl
theorem stage_eq3 (s : Fin win0_3.nbuf) : win0_3.stage s = oM := by revert s; intro s; match s with | ⟨0, _⟩ => rfl
theorem body_eq (t : Fin cfg0.N) : (defs₀ (F := F) .tc cfg0.body (cfg0.bodyArgs t (cfg0.slots t))) = bodyP (F := F) (grid0.coords t) :=
  body_eq' (grid0.coords t) (stage_eq0 _) (stage_eq1 _) (stage_eq2 _) (stage_eq3 _)

/-- A call of the body runs it. -/
theorem wp_stepCall (c : Dev nD) (n : ℕ) (t : Fin cfg0.N) (k : LP (F := F)) (Q : PUnit → sProp 𝕄) :
    W c (bodyP (grid0.coords t)) (fun _ => WL c (some (.inr n)) k Q) ⊢ WL c (some (.inr n)) (stepCall t k) Q := by
  refine .trans ?_ (wp_call (Variants.lift 𝒱₀) (c : Thread nD τ) (some (.inr n)) Set.univ (Q := Q) (ℓ := kernel cfg0.body)
    (a := cfg0.bodyArgs t (cfg0.slots t)) (k := fun _ => k) (Sum.inl none) (fun v hv => by cases hv; exact Sum.Lex.sep _ _))
  rw [show defs (F := F) .tc (kernel cfg0.body) (cfg0.bodyArgs t (cfg0.slots t)) = liftProg (defs₀ (F := F) .tc cfg0.body (cfg0.bodyArgs t (cfg0.slots t)))
    from defs_kernel pcfgs defs₀ _ _ _, body_eq t]
  exact wp_liftProg (defs (F := F)) (defs_kernel pcfgs defs₀) 𝒱₀ (c : Thread nD τ) Set.univ none _ _

/-- A call of an iteration runs it. -/
theorem wp_iterCall (c : Dev nD) (a : AdmK (F := F) 0) (bd) (n l : ℕ) (h : ∀ u ∈ bd, (Variants.lift 𝒱₀).lt (.inr n) u) (Q : PUnit → sProp 𝕄) :
    WL c (some (.inr n)) (cfg0.iter 0 a l) Q ⊢ WL c bd (nextCall a l) Q := by
  refine .trans ?_ (wp_call (Variants.lift 𝒱₀) (c : Thread nD τ) bd Set.univ (Q := Q) (ℓ := pipe 0)
    (a := (a, l)) (k := fun _ => .ret ⟨⟩) (Sum.inr n) h)
  exact wp_mono _ _ _ fun x => le_wp_ret _ _ _ _ _
theorem wp_nextCall (c : Dev nD) (a : AdmK (F := F) 0) (n l : ℕ) (h : 34 - l < n) (Q : PUnit → sProp 𝕄) :
    WL c (some (.inr (34 - l))) (cfg0.iter 0 a l) Q ⊢ WL c (some (.inr n)) (nextCall a l) Q :=
  wp_iterCall c a _ _ l (fun v hv => by cases hv; exact Sum.Lex.inr h) Q

/-- The start of a transfer within the device. -/
theorem wp_bring (c : Dev nD) (bd : Option (Variants.lift 𝒱₀).V) {sp sp' : Space} {s : Shape} {e : EltTy} {S : Memref sig .tc sp s e}
    {D : Memref sig .tc sp' s e} {q : DmaSem sig} {hsrc hdst hsem} {fs : Buf (Elt F) (S.view.loc (c : Thread nD τ))}
    {fd : Buf (Elt F) (D.view.loc (c : Thread nD τ))} {P : sProp 𝕄} (hs : 0 < s.numel)
    (h : iprop((D.view.loc (c : Thread nD τ) ↦[D.view.set]{fullShare} D.view.write (Elt F) fd (S.view.read (Elt F) fs) Finset.univ)
        ∗ (S.view.loc (c : Thread nD τ) ↦[S.view.set]{fullShare} fs)) ⊢ P)
    {k : PUnit → LP (F := F)} {Q : PUnit → sProp 𝕄} :
    iprop((S.view.loc (c : Thread nD τ) ↦[S.view.set]{fullShare} fs) ∗ (D.view.loc (c : Thread nD τ) ↦[D.view.set]{fullShare} fd)
        ∗ semVal ((c : Thread nD τ), .dma q) 0)
      ⊢ iprop((Flight EC (c : Thread nD τ) (.dma q) () (D.view.amount (.dma q)) P -∗ WL c bd (k ⟨⟩) Q)
          -∗ WL c bd (.op (.enqueueDma S (.here D) (.dma q) hsrc hdst hsem) k) Q) := by
  iintro ⟨Hs, Hd, Hv⟩ Hk
  iapply (wp_dmaLocal EC (Variants.lift 𝒱₀) (c : Thread nD τ) bd (fs := fs) (fd := fd) () (D.view.amount (.dma q)) rfl
    (View.dmaCredit_pos _ hs) (Finset.Subset.refl _)) $$ [Hs Hd Hv]
  · isplitl [Hs]; · iexact Hs
    isplitl [Hd]; · iexact Hd
    iexact Hv
  iintro HF
  iapply Hk
  iapply (Flight_mono EC (c : Thread nD τ) h) $$ HF

/-- The wait for it. -/
theorem wp_land (c : Dev nD) (bd : Option (Variants.lift 𝒱₀).V) {sp sp' : Space} {s : Shape} {e : EltTy} {S : Memref sig .tc sp s e}
    {D : Memref sig .tc sp' s e} {q : DmaSem sig} {hsrc hdst} {P : sProp 𝕄} {O : CellTallies nD τ sig Unit}
    (hO : (levAts L lv : sProp 𝕄) ⊢ MayWait (c : Thread nD τ) (.dma q) () O)
    {k : PUnit → LP (F := F)} {Q : PUnit → sProp 𝕄} :
    iprop(Flight EC (c : Thread nD τ) (.dma q) () (D.view.amount (.dma q)) P ∗ owesAny c O ∗ levAts L lv)
      ⊢ iprop((iprop(P ∗ semVal ((c : Thread nD τ), .dma q) 0 ∗ owesAny c O) -∗ WL c bd (k ⟨⟩) Q)
          -∗ WL c bd (.op (.waitDma2 q S D hsrc hdst) k) Q) := by
  unfold owesAny
  iintro ⟨HF, ⟨%W', HO⟩, Hl⟩ Hk
  iapply (wp_waitLocalO EC (Variants.lift 𝒱₀) (c : Thread nD τ) bd (srcw := S) (hsrc := hsrc) (hdst := hdst)
    (dstw := D) () (N := D.view.amount (.dma q)) rfl (O := O) (W := W')) $$ [HF HO Hl]
  · isplitl [HF]; · iexact HF
    isplitl [HO]; · iexact HO
    iapply hO; iexact Hl
  iintro ⟨HP, Hv, HO⟩
  iapply Hk
  isplitl [HP]; · iexact HP
  isplitl [Hv]; · iexact Hv
  iexists _; iexact HO

/-! ## The windows' ends -/

theorem cover {s : Shape} (r : Rect s) (h0 : ∀ a, r.off a = 0) (h1 : ∀ a, r.stride a = 1) (hz : ∀ a, r.size a = s.size a) (i : s.Idx) :
    ∃ j : r.shape.Idx, r.emb j = i ∧ ∀ a, (j a).val = (i a).val :=
  ⟨fun a => ⟨(i a).val, by show (i a).val < r.size a; rw [hz]; exact (i a).isLt⟩,
    funext fun a => Fin.ext (by show r.off a + r.stride a * (i a).val = (i a).val; rw [h0, h1]; omega), fun a => rfl⟩

theorem cover_set {s : Shape} (r : Rect s) (h0 : ∀ a, r.off a = 0) (h1 : ∀ a, r.stride a = 1) (hz : ∀ a, r.size a = s.size a) : r.set = Finset.univ := by
  rw [← Rect.map_emb_univ]
  exact Finset.eq_univ_iff_forall.2 fun i => by
    obtain ⟨j, hj, -⟩ := cover r h0 h1 hz i
    exact Finset.mem_map.2 ⟨j, Finset.mem_univ _, hj⟩

theorem blk_off (t : Fin cfg0.N) (w : Fin cfg0.W) : ∀ a, ((cfg0.win w).rect t).off a = 0 := by revert w t; decide
theorem blk_size (t : Fin cfg0.N) (w : Fin cfg0.W) : ∀ a, ((cfg0.win w).rect t).size a = (cfg0.win w).shape.size a := by revert w t; decide
theorem stg_size (t : Fin cfg0.N) (w : Fin cfg0.W) : ∀ a, ((cfg0.win w).srect (grid0.coords t)).size a = (cfg0.win w).block.size a := by revert w t; decide

/-- What a staging buffer reads once window `w`'s block has been brought into it: the array's contents. -/
theorem brought (t : Fin cfg0.N) (w : Fin cfg0.W) (s : Fin (cfg0.win w).nbuf)
    (f : ((cfg0.win w).stg t s).view.ty.Contents (Elt F)) (g : ((cfg0.win w).blk t).view.ty.Contents (Elt F)) (i : (cfg0.win w).block.Idx) (i' : (cfg0.win w).shape.Idx)
    (hi : ∀ a, (i' a).val = (i a).val) :
    ((cfg0.win w).stage s).view.read (Elt F) (((cfg0.win w).stg t s).view.write (Elt F) f (((cfg0.win w).blk t).view.read (Elt F) g) Finset.univ) i
      = (cfg0.win w).arr.view.read (Elt F) g i' := by
  obtain ⟨j, hj, hv⟩ := cover ((cfg0.win w).srect (grid0.coords t)) (fun _ => rfl) (fun _ => rfl) (stg_size t w) i
  rw [← hj]
  refine (View.read_slice_write_emb _ _ _ (Finset.mem_univ j)).trans ?_
  show (cfg0.win w).arr.view.read (Elt F) g (((cfg0.win w).rect t).emb j) = _
  congr 1
  funext a
  apply Fin.ext
  rw [hi, ← hv a]
  show ((cfg0.win w).rect t).off a + 1 * (j a).val = (j a).val
  rw [blk_off]; omega

/-- What the array reads once window `w`'s staging buffer has been written back. -/
theorem returned (t : Fin cfg0.N) (w : Fin cfg0.W) (s : Fin (cfg0.win w).nbuf)
    (f : ((cfg0.win w).stg t s).view.ty.Contents (Elt F)) (g : ((cfg0.win w).blk t).view.ty.Contents (Elt F)) (i : (cfg0.win w).block.Idx) (i' : (cfg0.win w).shape.Idx)
    (hi : ∀ a, (i' a).val = (i a).val) :
    (cfg0.win w).arr.view.read (Elt F) (((cfg0.win w).blk t).view.write (Elt F) g (((cfg0.win w).stg t s).view.read (Elt F) f) Finset.univ) i'
      = ((cfg0.win w).stage s).view.read (Elt F) f i := by
  obtain ⟨j, hj, hv⟩ := cover ((cfg0.win w).rect t) (blk_off t w) (fun _ => rfl) (blk_size t w) i'
  rw [← hj]
  refine (View.read_slice_write_emb _ _ _ (Finset.mem_univ j)).trans ?_
  show ((cfg0.win w).stage s).view.read (Elt F) f (((cfg0.win w).srect (grid0.coords t)).emb j) = _
  congr 1
  funext a
  apply Fin.ext
  rw [← hi, ← hv a]
  show 0 + 1 * (j a).val = (j a).val
  omega

/-- The device's arguments and its result's buffer. -/
def argBuf (b : Ref sig .tc) (c : Dev nD) : sProp 𝕄 := (c : Thread nD τ).loc b ↦[Finset.univ]{fullShare} m ((c : Thread nD τ).loc b)
def anyBuf (b : Ref sig .tc) (c : Dev nD) : sProp 𝕄 := iprop(∃ f : Buf (Elt F) ((c : Thread nD τ).loc b), (c : Thread nD τ).loc b ↦[Finset.univ]{fullShare} f)

abbrev t0 : Fin cfg0.N := ⟨0, by decide⟩
abbrev tN : Fin cfg0.N := ⟨31, by decide⟩

theorem blk_set (t : Fin cfg0.N) (b : Ref sig .tc) (r : Rect b.ty.shape) (hr) (h0 : ∀ a, r.off a = 0) (h1 : ∀ a, r.stride a = 1) (hz : ∀ a, r.size a = b.ty.shape.size a) :
    ((Memref.whole b).slice r hr).view.set = Finset.univ := (View.set_slice_whole b r).trans (cover_set r h0 h1 hz)

theorem set_blk0 : ((cfg0.win 0).blk t0).view.set = Finset.univ := (View.set_slice_whole main_arg0 _).trans (cover_set _ (blk_off _ 0) (fun _ => rfl) (blk_size _ 0))
theorem set_blk1 : ((cfg0.win 1).blk t0).view.set = Finset.univ := (View.set_slice_whole main_arg2 _).trans (cover_set _ (blk_off _ 1) (fun _ => rfl) (blk_size _ 1))
theorem set_blk2 : ((cfg0.win 2).blk t0).view.set = Finset.univ := (View.set_slice_whole main_arg3 _).trans (cover_set _ (blk_off _ 2) (fun _ => rfl) (blk_size _ 2))
theorem set_blk3 : ((cfg0.win 3).blk tN).view.set = Finset.univ := (View.set_slice_whole main_v1 _).trans (cover_set _ (blk_off _ 3) (fun _ => rfl) (blk_size _ 3))
theorem set_stg0 : ((cfg0.win 0).stg t0 (cfg0.slots t0 0)).view.set = Finset.univ := (View.set_slice_whole cc0_stg0_0 _).trans (cover_set _ (fun _ => rfl) (fun _ => rfl) (stg_size _ 0))
theorem set_stg1 : ((cfg0.win 1).stg t0 (cfg0.slots t0 1)).view.set = Finset.univ := (View.set_slice_whole cc0_stg1_0 _).trans (cover_set _ (fun _ => rfl) (fun _ => rfl) (stg_size _ 1))
theorem set_stg2 : ((cfg0.win 2).stg t0 (cfg0.slots t0 2)).view.set = Finset.univ := (View.set_slice_whole cc0_stg2_0 _).trans (cover_set _ (fun _ => rfl) (fun _ => rfl) (stg_size _ 2))
theorem set_stg3 : ((cfg0.win 3).stg tN (cfg0.slots tN 3)).view.set = Finset.univ := (View.set_slice_whole cc0_stg3_0 _).trans (cover_set _ (fun _ => rfl) (fun _ => rfl) (stg_size _ 3))

/-- A window's cell. -/
abbrev winQ (w : Fin cfg0.W) (t : Fin cfg0.N) : DmaSem sig := (cfg0.win w).sem (cfg0.slots t w)
/-- Operand `w`'s transfer under way. -/
def Fly (c : Dev nD) (w : Fin cfg0.W) (P : sProp 𝕄) : sProp 𝕄 :=
  Flight EC (c : Thread nD τ) (.dma (winQ w t0)) () (((cfg0.win w).stg t0 (cfg0.slots t0 w)).view.amount (.dma (winQ w t0))) P

theorem got0 (c : Dev nD) (f : Buf (Elt F) ((c : Thread nD τ).loc cc0_stg0_0)) :
    iprop((((cfg0.win 0).stg t0 (cfg0.slots t0 0)).view.loc (c : Thread nD τ) ↦[((cfg0.win 0).stg t0 (cfg0.slots t0 0)).view.set]{fullShare}
          ((cfg0.win 0).stg t0 (cfg0.slots t0 0)).view.write (Elt F) f (((cfg0.win 0).blk t0).view.read (Elt F) (m ((c : Thread nD τ).loc main_arg0))) Finset.univ)
        ∗ (((cfg0.win 0).blk t0).view.loc (c : Thread nD τ) ↦[((cfg0.win 0).blk t0).view.set]{fullShare} m ((c : Thread nD τ).loc main_arg0)))
      ⊢ iprop(owns (c : Thread nD τ) xM fullShare (xv m c) ∗ argBuf m main_arg0 c) := by
  rw [set_blk0, set_stg0]
  unfold argBuf owns
  rw [show xM.view.set = Finset.univ from View.set_whole _]
  iintro ⟨Hd, Hs⟩
  isplitl [Hd]
  · iexists _
    isplitr
    rotate_left
    · iexact Hd
    · ipureintro
      exact funext fun i => brought t0 0 (cfg0.slots t0 0) f (m ((c : Thread nD τ).loc main_arg0)) i i (fun a => rfl)
  · iexact Hs
theorem wp_start0 (c : Dev nD) (bd) (k : PUnit → LP (F := F)) (Q) :
    iprop(argBuf m main_arg0 c ∗ anyBuf (F := F) cc0_stg0_0 c ∗ semVal ((c : Thread nD τ), .dma (winQ 0 t0)) 0)
      ⊢ iprop((Fly c 0 iprop(owns (c : Thread nD τ) xM fullShare (xv m c) ∗ argBuf m main_arg0 c) -∗ WL c bd (k ⟨⟩) Q)
        -∗ WL c bd (.op (cfg0.startIn 0 t0) k) Q) := by
  unfold argBuf anyBuf
  iintro ⟨Hs, ⟨%f, Hd⟩, Hv⟩ Hk
  iapply (wp_bring c bd (S := (cfg0.win 0).blk t0) (D := (cfg0.win 0).stg t0 (cfg0.slots t0 0)) (q := winQ 0 t0)
    (fs := m ((c : Thread nD τ).loc main_arg0)) (fd := f) (by decide) (got0 m c f)) $$ [Hs Hd Hv]
  · rw [set_blk0, set_stg0]
    isplitl [Hs]; · iexact Hs
    isplitl [Hd]; · iexact Hd
    iexact Hv
  iintro HF
  iapply Hk
  unfold Fly argBuf
  iexact HF

theorem got1 (c : Dev nD) (f : Buf (Elt F) ((c : Thread nD τ).loc cc0_stg1_0)) :
    iprop((((cfg0.win 1).stg t0 (cfg0.slots t0 1)).view.loc (c : Thread nD τ) ↦[((cfg0.win 1).stg t0 (cfg0.slots t0 1)).view.set]{fullShare}
          ((cfg0.win 1).stg t0 (cfg0.slots t0 1)).view.write (Elt F) f (((cfg0.win 1).blk t0).view.read (Elt F) (m ((c : Thread nD τ).loc main_arg2))) Finset.univ)
        ∗ (((cfg0.win 1).blk t0).view.loc (c : Thread nD τ) ↦[((cfg0.win 1).blk t0).view.set]{fullShare} m ((c : Thread nD τ).loc main_arg2)))
      ⊢ iprop(owns (c : Thread nD τ) sxM fullShare (sxv m c) ∗ argBuf m main_arg2 c) := by
  rw [set_blk1, set_stg1]
  unfold argBuf owns
  rw [show sxM.view.set = Finset.univ from View.set_whole _]
  iintro ⟨Hd, Hs⟩
  isplitl [Hd]
  · iexists _
    isplitr
    rotate_left
    · iexact Hd
    · ipureintro
      exact funext fun i => brought t0 1 (cfg0.slots t0 1) f (m ((c : Thread nD τ).loc main_arg2)) i i (fun a => rfl)
  · iexact Hs
theorem wp_start1 (c : Dev nD) (bd) (k : PUnit → LP (F := F)) (Q) :
    iprop(argBuf m main_arg2 c ∗ anyBuf (F := F) cc0_stg1_0 c ∗ semVal ((c : Thread nD τ), .dma (winQ 1 t0)) 0)
      ⊢ iprop((Fly c 1 iprop(owns (c : Thread nD τ) sxM fullShare (sxv m c) ∗ argBuf m main_arg2 c) -∗ WL c bd (k ⟨⟩) Q)
        -∗ WL c bd (.op (cfg0.startIn 1 t0) k) Q) := by
  unfold argBuf anyBuf
  iintro ⟨Hs, ⟨%f, Hd⟩, Hv⟩ Hk
  iapply (wp_bring c bd (S := (cfg0.win 1).blk t0) (D := (cfg0.win 1).stg t0 (cfg0.slots t0 1)) (q := winQ 1 t0)
    (fs := m ((c : Thread nD τ).loc main_arg2)) (fd := f) (by decide) (got1 m c f)) $$ [Hs Hd Hv]
  · rw [set_blk1, set_stg1]
    isplitl [Hs]; · iexact Hs
    isplitl [Hd]; · iexact Hd
    iexact Hv
  iintro HF
  iapply Hk
  unfold Fly argBuf
  iexact HF

theorem got2 (c : Dev nD) (f : Buf (Elt F) ((c : Thread nD τ).loc cc0_stg2_0)) :
    iprop((((cfg0.win 2).stg t0 (cfg0.slots t0 2)).view.loc (c : Thread nD τ) ↦[((cfg0.win 2).stg t0 (cfg0.slots t0 2)).view.set]{fullShare}
          ((cfg0.win 2).stg t0 (cfg0.slots t0 2)).view.write (Elt F) f (((cfg0.win 2).blk t0).view.read (Elt F) (m ((c : Thread nD τ).loc main_arg3))) Finset.univ)
        ∗ (((cfg0.win 2).blk t0).view.loc (c : Thread nD τ) ↦[((cfg0.win 2).blk t0).view.set]{fullShare} m ((c : Thread nD τ).loc main_arg3)))
      ⊢ iprop(owns (c : Thread nD τ) swM fullShare (swv m c) ∗ argBuf m main_arg3 c) := by
  rw [set_blk2, set_stg2]
  unfold argBuf owns
  rw [show swM.view.set = Finset.univ from View.set_whole _]
  iintro ⟨Hd, Hs⟩
  isplitl [Hd]
  · iexists _
    isplitr
    rotate_left
    · iexact Hd
    · ipureintro
      exact funext fun i => brought t0 2 (cfg0.slots t0 2) f (m ((c : Thread nD τ).loc main_arg3)) i i (fun a => rfl)
  · iexact Hs
theorem wp_start2 (c : Dev nD) (bd) (k : PUnit → LP (F := F)) (Q) :
    iprop(argBuf m main_arg3 c ∗ anyBuf (F := F) cc0_stg2_0 c ∗ semVal ((c : Thread nD τ), .dma (winQ 2 t0)) 0)
      ⊢ iprop((Fly c 2 iprop(owns (c : Thread nD τ) swM fullShare (swv m c) ∗ argBuf m main_arg3 c) -∗ WL c bd (k ⟨⟩) Q)
        -∗ WL c bd (.op (cfg0.startIn 2 t0) k) Q) := by
  unfold argBuf anyBuf
  iintro ⟨Hs, ⟨%f, Hd⟩, Hv⟩ Hk
  iapply (wp_bring c bd (S := (cfg0.win 2).blk t0) (D := (cfg0.win 2).stg t0 (cfg0.slots t0 2)) (q := winQ 2 t0)
    (fs := m ((c : Thread nD τ).loc main_arg3)) (fd := f) (by decide) (got2 m c f)) $$ [Hs Hd Hv]
  · rw [set_blk2, set_stg2]
    isplitl [Hs]; · iexact Hs
    isplitl [Hd]; · iexact Hd
    iexact Hv
  iintro HF
  iapply Hk
  unfold Fly argBuf
  iexact HF

/-- The wait for operand `w`. -/
theorem wp_waitIn (c : Dev nD) (bd) (w : Fin cfg0.W) (P : sProp 𝕄) (O : CellTallies nD τ sig Unit)
    (hO : (levAts L lv : sProp 𝕄) ⊢ MayWait (c : Thread nD τ) (.dma (winQ w t0)) () O) {hsrc hdst} (k : PUnit → LP (F := F)) (Q) :
    iprop(Fly c w P ∗ owesAny c O ∗ levAts L lv)
      ⊢ iprop((iprop(P ∗ semVal ((c : Thread nD τ), .dma (winQ w t0)) 0 ∗ owesAny c O) -∗ WL c bd (k ⟨⟩) Q)
        -∗ WL c bd (.op (.waitDma2 (winQ w t0) ((cfg0.win w).blk t0) ((cfg0.win w).stg t0 (cfg0.slots t0 w)) hsrc hdst) k) Q) :=
  wp_land c bd (S := (cfg0.win w).blk t0) (D := (cfg0.win w).stg t0 (cfg0.slots t0 w)) (q := winQ w t0) hO

/-- The result's buffer holding a value. -/
def resBuf (c : Dev nD) (X : Vec F S4096x256 .f32) : sProp 𝕄 := owns (c : Thread nD τ) (Memref.whole main_v1 : Memref sig .tc .hbm S4096x256 .f32) fullShare X

theorem gave3 (c : Dev nD) (X : Vec F S4096x256 .f32) (f : Buf (Elt F) ((c : Thread nD τ).loc cc0_stg3_0)) (hf : oM.view.read (Elt F) f = X)
    (g : Buf (Elt F) ((c : Thread nD τ).loc main_v1)) :
    iprop((((cfg0.win 3).blk tN).view.loc (c : Thread nD τ) ↦[((cfg0.win 3).blk tN).view.set]{fullShare}
          ((cfg0.win 3).blk tN).view.write (Elt F) g (((cfg0.win 3).stg tN (cfg0.slots tN 3)).view.read (Elt F) f) Finset.univ)
        ∗ (((cfg0.win 3).stg tN (cfg0.slots tN 3)).view.loc (c : Thread nD τ) ↦[((cfg0.win 3).stg tN (cfg0.slots tN 3)).view.set]{fullShare} f))
      ⊢ iprop(resBuf c X ∗ anyBuf (F := F) cc0_stg3_0 c) := by
  rw [set_blk3, set_stg3]
  unfold resBuf anyBuf owns
  rw [show (Memref.whole main_v1 : Memref sig .tc .hbm S4096x256 .f32).view.set = Finset.univ from View.set_whole _]
  iintro ⟨Hd, Hs⟩
  isplitl [Hd]
  · iexists _
    isplitr
    rotate_left
    · iexact Hd
    · ipureintro
      exact (funext fun i => returned tN 3 (cfg0.slots tN 3) f g i i (fun a => rfl)).trans hf
  · iexists f; iexact Hs

/-- The write-back of the result: its start and the wait. -/
theorem wp_result (c : Dev nD) (bd) (X : Vec F S4096x256 .f32) (O : CellTallies nD τ sig Unit)
    (hO : (levAts L lv : sProp 𝕄) ⊢ MayWait (c : Thread nD τ) (.dma (winQ 3 tN)) () O) (k : PUnit → LP (F := F)) (Q) :
    iprop(owns (c : Thread nD τ) oM fullShare X ∗ anyBuf (F := F) main_v1 c ∗ semVal ((c : Thread nD τ), .dma (winQ 3 tN)) 0 ∗ owesAny c O ∗ levAts L lv)
      ⊢ iprop((iprop(resBuf c X ∗ anyBuf (F := F) cc0_stg3_0 c ∗ semVal ((c : Thread nD τ), .dma (winQ 3 tN)) 0 ∗ owesAny c O) -∗ WL c bd (k ⟨⟩) Q)
        -∗ WL c bd (.op (cfg0.startOut 3 tN) fun _ => .op (cfg0.waitOut 3 tN) k) Q) := by
  unfold owns
  rw [show oM.view.set = Finset.univ from View.set_whole _]
  rw [show anyBuf (F := F) main_v1 c = iprop(∃ f : Buf (Elt F) ((c : Thread nD τ).loc main_v1), (c : Thread nD τ).loc main_v1 ↦[Finset.univ]{fullShare} f) from rfl]
  iintro ⟨⟨%f, %hf, Hs⟩, ⟨%g, Hd⟩, Hv, HO, Hl⟩ Hk
  iapply (wp_bring c bd (S := (cfg0.win 3).stg tN (cfg0.slots tN 3)) (D := (cfg0.win 3).blk tN) (q := winQ 3 tN)
    (hsrc := (cfg0.win 3).wordExact_stg tN _) (hdst := (cfg0.win 3).wordExact_blk tN) (fs := f) (fd := g) (by decide) (gave3 c X f hf g)) $$ [Hs Hd Hv]
  · rw [set_blk3, set_stg3]
    isplitl [Hs]; · iexact Hs
    isplitl [Hd]; · iexact Hd
    iexact Hv
  iintro HF
  iapply (wp_land c bd (S := (cfg0.win 3).stg tN (cfg0.slots tN 3)) (D := (cfg0.win 3).blk tN) (q := winQ 3 tN)
    (hsrc := (cfg0.win 3).wordExact_stg tN _) (hdst := (cfg0.win 3).wordExact_blk tN) hO) $$ [HF HO Hl]
  · isplitl [HF]; · iexact HF
    isplitl [HO]; · iexact HO
    iexact Hl
  iintro ⟨⟨Hr, Hs⟩, Hv, HO⟩
  iapply Hk
  isplitl [Hr]; · iexact Hr
  isplitl [Hs]; · iexact Hs
  isplitl [Hv]; · iexact Hv
  iexact HO

end Wps

end Cert.A2A
-- ==== Proof.Grid.lean ====
/-
# The grid, run

From the iteration that stages the operands to the one that writes the result back.
-/
module

public import proofs.«01_k».proof.Proof.Stage
public import proofs.«01_k».proof.Proof.Last

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Runs

open Pipeline

/-- The rows' blocks are apart, -/
theorem rowsR_disjoint (r r' : Fin 32) (h : r ≠ r') : Disjoint (rowsR r).set (rowsR r').set := by
  rw [Finset.disjoint_left]
  intro i hi hi'
  rw [← Rect.map_emb_univ] at hi hi'
  obtain ⟨j, -, rfl⟩ := Finset.mem_map.1 hi
  obtain ⟨j', -, hj⟩ := Finset.mem_map.1 hi'
  exact h (by rw [← rowOf_emb r j, ← rowOf_emb r' j']; exact congrArg rowOf hj.symm)
/-- and fill the result. -/
theorem rowsR_cover (i : S4096x256.Idx) : (rowsR (rowOf i)).emb (inRow i) = i := by
  funext a
  match a with
  | ⟨0, _⟩ => apply Fin.ext; show 128 * ((i 0).val / 128) + 1 * ((i 0).val % 128) = (i 0).val; omega
  | ⟨1, _⟩ => apply Fin.ext; show 0 + 1 * (i 1).val = (i 1).val; omega
theorem rowsR_union : (Finset.univ.biUnion (β := oM.view.ty.Idx) fun r : Fin 32 => (oM.view.slice (rowsR r)).set) = Finset.univ :=
  Finset.eq_univ_iff_forall.2 fun i => Finset.mem_biUnion.2 ⟨rowOf i, Finset.mem_univ _, by
    rw [View.set_slice_whole, ← Rect.map_emb_univ]
    exact Finset.mem_map.2 ⟨inRow i, Finset.mem_univ _, rowsR_cover i⟩⟩

/-- The rows of the result together are the result. -/
theorem rows_join (c : Dev nD) : bigSep Finset.univ (fun r : Fin 32 => rowsAt m c r) ⊢ owns (c : Thread nD τ) oM fullShare (outv m c) := by
  iintro H
  ihave H' := (show bigSep Finset.univ (fun r : Fin 32 => rowsAt m c r) ⊢ _ from
    (bigSep_mono fun r _ => show rowsAt m c r ⊢ owns (c : Thread nD τ) (rowsM r) fullShare (fun j => outv m c ((rowsR r).emb j)) from by
      unfold rowsAt; rw [show tile m r c = fun j => outv m c ((rowsR r).emb j) from (outv_emb m c r).symm]; exact .rfl).trans
    (owns_rects_join (c : Thread nD τ) oM fullShare rowsR (fun _ _ => rfl) rowsR_disjoint (outv m c) Finset.univ)) $$ H
  icases H' with ⟨%g, %hg, H⟩
  rw [rowsR_union]
  unfold owns
  rw [show oM.view.set = Finset.univ from View.set_whole _]
  iexists g
  isplitr
  · ipureintro
    funext i
    have := hg (rowOf i) (Finset.mem_univ _) (inRow i)
    rwa [rowsR_cover] at this
  · iexact H

def subE (c : Fin 32) : Fin 32 ≃ Fin 32 := ⟨fun h => c - h, fun u => c - u, by decide +revert, by decide +revert⟩
theorem rows_all (c : Fin 32) :
    iprop(rowsAt m c c ∗ bigSep (fromN 1) (fun h : Fin 32 => rowsAt m c (c - h))) ⊢ owns (c : Thread nD τ) oM fullShare (outv m c) := by
  refine .trans ?_ (rows_join m c)
  rw [bigSep_univ_equiv (subE c) (fun r => rowsAt m c r), ← fromN_zero,
    show bigSep (fromN 0) (fun h => rowsAt m c (subE c h)) = iprop(_ ∗ bigSep (fromN 1) (fun h => rowsAt m c (subE c h))) from bigSep_from (0 : Fin 32) _,
    show rowsAt m c (subE c 0) = rowsAt m c c from by congr 1; revert c; decide]
  exact .rfl

theorem coords_eq (t : Fin cfg0.N) (h : Fin 32) (e : t.val = h.val) : (grid0.coords t) 0 = h := by
  have : ∀ t : Fin cfg0.N, ((grid0.coords t) 0).val = t.val := by decide
  exact Fin.ext ((this t).trans e)

/-- What the grid leaves. -/
def GridEnd (c : Fin 32) : sProp 𝕄 :=
  iprop(Const m c ∗ Ring m c 32 ∗ bigSep (fromN 1) (fun h : Fin 32 => atPos ER (rcvC c h) 1 ∅ 0)
    ∗ bigSep (fromN 1) (fun h : Fin 32 => iprop(atPos ER (sndC c h) 1 ∅ 0 ∗ slabAny (F := F) c h)) ∗ owesAny (F := F) c 0
    ∗ resBuf c (outv m c) ∗ anyBuf (F := F) cc0_stg3_0 c ∗ semVal ((c : Thread nD τ), .dma (winQ 3 tN)) 0)
/-- What its last iterations need besides the steps' state. -/
def GridRest (c : Fin 32) : sProp 𝕄 :=
  iprop(Rest (F := F) c ∗ anyBuf (F := F) main_v1 c ∗ semVal ((c : Thread nD τ), .dma (winQ 3 tN)) 0)

theorem run_end (c : Dev nD) (a : AdmK (F := F) 0) (Q : PUnit → sProp 𝕄) : Q ⟨⟩ ⊢ WL c (some (.inr (34 - 33))) (cfg0.iter 0 a 33) Q := by
  rw [iter_end]; exact le_wp_ret _ _ _ _ _

theorem run_last (κ : GSem nD τ sig → ℕ) (c : Fin 32) (a : AdmK (F := F) 0) (Q : PUnit → sProp 𝕄) :
    iprop(Ctx m κ ∗ levAts L lv ∗ BodySt m c 31 ∗ GridRest (F := F) c ∗ (GridEnd m c -∗ Q ⟨⟩)) ⊢ WL c (some (.inr (34 - 32))) (cfg0.iter 0 a 32) Q := by
  rw [iter_last]
  unfold GridRest
  iintro ⟨HC, #Hl, HB, ⟨HR, Hv1, Hs⟩, HK⟩
  iapply (wp_stepCall c (34 - 32) _ _ Q)
  iapply (body_last m κ c _ (coords_eq _ _ rfl) _)
  isplitl [HC]; · iexact HC
  isplitr; · iexact Hl
  isplitl [HB]; · iexact HB
  isplitl [HR]; · iexact HR
  unfold BodyEnd
  iintro ⟨Hc, Hr, Hown, Hrc, Hsd, HO⟩
  ihave Hrc' := (show bigSep (fromN 1) (fun h : Fin 32 => iprop(atPos ER (rcvC c h) 1 ∅ 0 ∗ rowsAt m c (c - h)))
      ⊢ iprop(bigSep (fromN 1) (fun h : Fin 32 => atPos ER (rcvC c h) 1 ∅ 0) ∗ bigSep (fromN 1) (fun h : Fin 32 => rowsAt m c (c - h))) from by
    rw [show _ = _ from bigSep_sep' (M := 𝕄) (fromN 1) (fun h : Fin 32 => atPos ER (rcvC c h) 1 ∅ 0) (fun h : Fin 32 => rowsAt m c (c - h))]) $$ Hrc
  icases Hrc' with ⟨Hrc, Hrows⟩
  ihave Ho := (rows_all m c) $$ [Hown Hrows]
  · isplitl [Hown]; · iexact Hown
    iexact Hrows
  iapply (wp_result c _ (outv m c) 0 (by rw [← owR_end c]; exact mayWait_low c _ (by decide) c 32)) $$ [Ho Hv1 Hs HO]
  · isplitl [Ho]; · iexact Ho
    isplitl [Hv1]; · iexact Hv1
    isplitl [Hs]; · iexact Hs
    isplitl [HO]; · iexact HO
    iexact Hl
  iintro ⟨Hres, Hst, Hs, HO⟩
  iapply (wp_nextCall c a (34 - 32) 33 (by omega) Q)
  iapply (run_end c a Q)
  iapply HK
  unfold GridEnd
  isplitl [Hc]; · iexact Hc
  isplitl [Hr]; · iexact Hr
  isplitl [Hrc]; · iexact Hrc
  isplitl [Hsd]; · iexact Hsd
  isplitl [HO]; · iexact HO
  isplitl [Hres]; · iexact Hres
  isplitl [Hst]; · iexact Hst
  iexact Hs

theorem run_mid (κ : GSem nD τ sig → ℕ) (c : Fin 32) (a : AdmK (F := F) 0) (Q : PUnit → sProp 𝕄) :
    ∀ (d n : ℕ), n + d = 31 → 1 ≤ n →
      (iprop(Ctx m κ ∗ levAts L lv ∗ BodySt m c n ∗ GridRest (F := F) c ∗ (GridEnd m c -∗ Q ⟨⟩)) ⊢ WL c (some (.inr (34 - (n + 1)))) (cfg0.iter 0 a (n + 1)) Q)
  | 0, n, hn, h1 => by obtain rfl : n = 31 := by omega
                       exact run_last m κ c a Q
  | d + 1, n, hn, h1 => by
    have hlt : n < cfg0.N := by rw [N32]; omega
    have hlt' : n < 32 := by omega
    rw [show (cfg0.iter 0 a (n + 1) : LP (F := F)) = stepCall ⟨n, hlt⟩ (nextCall a (n + 2)) from iter_mid a ⟨n, hlt⟩ h1 (by show n ≤ 30; omega)]
    iintro ⟨#HC, #Hl, HB, HR, HK⟩
    iapply (wp_stepCall c (34 - (n + 1)) _ _ Q)
    iapply (body_mid m κ c _ ⟨n, hlt'⟩ (coords_eq _ _ rfl) h1 (by show n ≤ 30; omega) _)
    isplitr; · iexact HC
    isplitr; · iexact Hl
    isplitl [HB]; · iexact HB
    iintro HB
    iapply (wp_nextCall c a (34 - (n + 1)) (n + 2) (by omega) Q)
    iapply (run_mid κ c a Q d (n + 1) (by omega) (by omega))
    isplitr; · iexact HC
    isplitr; · iexact Hl
    isplitl [HB]; · iexact HB
    isplitl [HR]; · iexact HR
    iexact HK

/-- What staging needs, and what it leaves. -/
def StageIn (c : Dev nD) : sProp 𝕄 :=
  iprop((argBuf m main_arg0 c ∗ anyBuf (F := F) cc0_stg0_0 c ∗ semVal ((c : Thread nD τ), .dma (winQ 0 t0)) 0)
    ∗ (argBuf m main_arg2 c ∗ anyBuf (F := F) cc0_stg1_0 c ∗ semVal ((c : Thread nD τ), .dma (winQ 1 t0)) 0)
    ∗ (argBuf m main_arg3 c ∗ anyBuf (F := F) cc0_stg2_0 c ∗ semVal ((c : Thread nD τ), .dma (winQ 2 t0)) 0))
def StageOut (c : Dev nD) : sProp 𝕄 :=
  iprop((argBuf m main_arg0 c ∗ semVal ((c : Thread nD τ), .dma (winQ 0 t0)) 0)
    ∗ (argBuf m main_arg2 c ∗ semVal ((c : Thread nD τ), .dma (winQ 1 t0)) 0)
    ∗ (argBuf m main_arg3 c ∗ semVal ((c : Thread nD τ), .dma (winQ 2 t0)) 0))

theorem run_one (κ : GSem nD τ sig → ℕ) (c : Fin 32) (a : AdmK (F := F) 0) (Q : PUnit → sProp 𝕄) :
    iprop(Ctx m κ ∗ levAts L lv ∗ StageIn m c ∗ owesAny (F := F) c (O₀ c)
        ∗ (iprop(Const m c ∗ owesAny (F := F) c (O₀ c)) -∗ Pre0 m c) ∗ GridRest (F := F) c ∗ (iprop(GridEnd m c ∗ StageOut m c ∗ atPos ER (barC c) 1 ∅ 0) -∗ Q ⟨⟩))
      ⊢ WL c (some (.inr (34 - 1))) (cfg0.iter 0 a 1) Q := by
  rw [iter_one]
  unfold StageIn
  iintro ⟨#HC, #Hl, ⟨⟨Ha0, Hb0, Hs0⟩, ⟨Ha1, Hb1, Hs1⟩, ⟨Ha2, Hb2, Hs2⟩⟩, HO, HP, HR, HK⟩
  iapply (wp_start0 m c) $$ [Ha0 Hb0 Hs0]
  · isplitl [Ha0]; · iexact Ha0
    isplitl [Hb0]; · iexact Hb0
    iexact Hs0
  iintro Hf0
  iapply (wp_start1 m c) $$ [Ha1 Hb1 Hs1]
  · isplitl [Ha1]; · iexact Ha1
    isplitl [Hb1]; · iexact Hb1
    iexact Hs1
  iintro Hf1
  iapply (wp_start2 m c) $$ [Ha2 Hb2 Hs2]
  · isplitl [Ha2]; · iexact Ha2
    isplitl [Hb2]; · iexact Hb2
    iexact Hs2
  iintro Hf2
  iapply (wp_waitIn c _ 0 _ (O₀ c) (mayWait_launch c _ (by decide) c)
    (hsrc := (cfg0.win 0).wordExact_blk t0) (hdst := (cfg0.win 0).wordExact_stg t0 _)) $$ [Hf0 HO]
  · isplitl [Hf0]; · iexact Hf0
    isplitl [HO]; · iexact HO
    iexact Hl
  iintro ⟨⟨Hb0, Ha0⟩, Hs0, HO⟩
  iapply (wp_waitIn c _ 1 _ (O₀ c) (mayWait_launch c _ (by decide) c)
    (hsrc := (cfg0.win 1).wordExact_blk t0) (hdst := (cfg0.win 1).wordExact_stg t0 _)) $$ [Hf1 HO]
  · isplitl [Hf1]; · iexact Hf1
    isplitl [HO]; · iexact HO
    iexact Hl
  iintro ⟨⟨Hb1, Ha1⟩, Hs1, HO⟩
  iapply (wp_waitIn c _ 2 _ (O₀ c) (mayWait_launch c _ (by decide) c)
    (hsrc := (cfg0.win 2).wordExact_blk t0) (hdst := (cfg0.win 2).wordExact_stg t0 _)) $$ [Hf2 HO]
  · isplitl [Hf2]; · iexact Hf2
    isplitl [HO]; · iexact HO
    iexact Hl
  iintro ⟨⟨Hb2, Ha2⟩, Hs2, HO⟩
  ihave HP' := HP $$ [Hb0 Hb1 Hb2 HO]
  · unfold Const
    isplitr [HO]
    · isplitl [Hb0]; · iexact Hb0
      isplitl [Hb1]; · iexact Hb1
      iexact Hb2
    · iexact HO
  iapply (wp_stepCall c (34 - 1) _ _ Q)
  iapply (body_first m κ c _ (coords_eq _ _ rfl) _)
  isplitr; · iexact HC
  isplitr; · iexact Hl
  isplitl [HP']; · iexact HP'
  iintro ⟨HB, Hat⟩
  iapply (wp_nextCall c a (34 - 1) 2 (by omega) Q)
  iapply (run_mid m κ c a Q 30 1 (by omega) (by omega))
  isplitr; · iexact HC
  isplitr; · iexact Hl
  isplitl [HB]; · iexact HB
  isplitl [HR]; · iexact HR
  iintro HE
  iapply HK
  isplitl [HE]; · iexact HE
  isplitr [Hat]
  rotate_left
  · iexact Hat
  unfold StageOut
  isplitl [Ha0 Hs0]
  · isplitl [Ha0] <;> iassumption
  isplitl [Ha1 Hs1]
  · isplitl [Ha1] <;> iassumption
  isplitl [Ha2] <;> iassumption

theorem run_enter (κ : GSem nD τ sig → ℕ) (c : Fin 32) (bd) (hbd : ∀ u ∈ bd, (Variants.lift 𝒱₀).lt (.inr 34) u) (a : AdmK (F := F) 0) (Q : PUnit → sProp 𝕄) :
    iprop(Ctx m κ ∗ levAts L lv ∗ StageIn m c ∗ owesAny (F := F) c (O₀ c)
        ∗ (iprop(Const m c ∗ owesAny (F := F) c (O₀ c)) -∗ Pre0 m c) ∗ GridRest (F := F) c ∗ (iprop(GridEnd m c ∗ StageOut m c ∗ atPos ER (barC c) 1 ∅ 0) -∗ Q ⟨⟩))
      ⊢ WL c bd (nextCall a 0) Q := by
  refine .trans ?_ (wp_iterCall c a bd 34 0 hbd Q)
  rw [iter_first]
  exact (run_one m κ c _ Q).trans (wp_nextCall c _ 34 1 (by omega) _)

/-- The region's program, the whole grid. -/
theorem run_grid (κ : GSem nD τ sig → ℕ) (c : Fin 32) (bd) (hbd : ∀ u ∈ bd, (Variants.lift 𝒱₀).lt (.inr 34) u) (Q : PUnit → sProp 𝕄) :
    iprop(Ctx m κ ∗ levAts L lv ∗ StageIn m c ∗ owesAny (F := F) c (O₀ c)
        ∗ (iprop(Const m c ∗ owesAny (F := F) c (O₀ c)) -∗ Pre0 m c) ∗ GridRest (F := F) c ∗ (iprop(GridEnd m c ∗ StageOut m c ∗ atPos ER (barC c) 1 ∅ 0) -∗ Q ⟨⟩))
      ⊢ WL c bd (prun pcfgs 0) Q := by
  have hrun : (prun pcfgs 0 : LP (F := F)) = .op (.assume True (.isTrue trivial)) fun h =>
      .op (.call (pipe 0) (⟨fun k => k.elim0, h.down⟩, 0)) fun _ => .ret ⟨⟩ := by
    rfl
  rw [hrun]
  refine .trans ?_ (wp_assume (Variants.lift 𝒱₀) (c : Thread nD τ) bd Set.univ trivial)
  exact run_enter m κ c bd hbd _ Q

end Runs

end Cert.A2A
-- ==== Proof.Parts.lean ====
/-
# The buffers and their parts, the semaphores of the launch

The result into its blocks of rows, the tiles into slabs, the ring into slots, the weights into blocks of columns.
-/
module

public import proofs.«01_k».proof.Proof.Grid
public import Idealize.ShloMosaic.Lib.Ring

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ)

theorem zip_sep {I : Type} [DecidableEq I] (S : Finset I) (Φ Ψ : I → sProp 𝕄) : iprop(bigSep S Φ ∗ bigSep S Ψ) ⊢ bigSep S (fun s => iprop(Φ s ∗ Ψ s)) := by
  rw [show bigSep S (fun s => iprop(Φ s ∗ Ψ s)) = iprop(bigSep S Φ ∗ bigSep S Ψ) from bigSep_sep' (M := 𝕄) S Φ Ψ]
theorem unzip_sep {I : Type} [DecidableEq I] (S : Finset I) (Φ Ψ : I → sProp 𝕄) : bigSep S (fun s => iprop(Φ s ∗ Ψ s)) ⊢ iprop(bigSep S Φ ∗ bigSep S Ψ) := by
  rw [show bigSep S (fun s => iprop(Φ s ∗ Ψ s)) = iprop(bigSep S Φ ∗ bigSep S Ψ) from bigSep_sep' (M := 𝕄) S Φ Ψ]

/-! ## Rectangles told apart by a key -/

theorem keyed_disjoint {s : Shape} {T : Type} (r : T → Rect s) (key : s.Idx → T) (hk : ∀ t j, key ((r t).emb j) = t) (t t' : T) (h : t ≠ t') :
    Disjoint (r t).set (r t').set := by
  rw [Finset.disjoint_left]
  intro i hi hi'
  rw [← Rect.map_emb_univ] at hi hi'
  obtain ⟨j, -, rfl⟩ := Finset.mem_map.1 hi
  obtain ⟨j', -, hj⟩ := Finset.mem_map.1 hi'
  exact h (by rw [← hk t j, ← hk t' j']; exact congrArg key hj.symm)
theorem keyed_cover {s : Shape} {T : Type} [Fintype T] (r : T → Rect s) (key : s.Idx → T) (hc : ∀ i, ∃ j, (r (key i)).emb j = i) :
    (Finset.univ.biUnion fun t => (r t).set) = Finset.univ :=
  Finset.eq_univ_iff_forall.2 fun i => Finset.mem_biUnion.2 ⟨key i, Finset.mem_univ _, by
    rw [← Rect.map_emb_univ]
    obtain ⟨j, hj⟩ := hc i
    exact Finset.mem_map.2 ⟨j, Finset.mem_univ _, hj⟩⟩

def slabKey (i : S32x128x256.Idx) : Fin 32 := i 0
theorem slabKey_emb (h : Fin 32) (j : (slabR h).shape.Idx) : slabKey ((slabR h).emb j) = h := by
  have h0 : (j 0).val < 1 := (j 0).isLt
  apply Fin.ext; show h.val + 1 * (j 0).val = h.val; omega
theorem slabKey_ex (i : S32x128x256.Idx) : ∃ j, (slabR (slabKey i)).emb j = i :=
  ⟨(fun | ⟨0, _⟩ => ⟨0, Nat.zero_lt_one⟩ | ⟨1, _⟩ => i 1 | ⟨2, _⟩ => i 2 : S1x128x256.Idx), by
    funext a
    match a with
    | ⟨0, _⟩ => apply Fin.ext; show (i 0).val + 1 * 0 = (i 0).val; omega
    | ⟨1, _⟩ => apply Fin.ext; show 0 + 1 * (i 1).val = (i 1).val; omega
    | ⟨2, _⟩ => apply Fin.ext; show 0 + 1 * (i 2).val = (i 2).val; omega⟩

def slotKey (i : S6x4096x256.Idx) : Fin 6 := i 0
theorem slotKey_emb (h : Fin 6) (j : (slotR h).shape.Idx) : slotKey ((slotR h).emb j) = h := by
  have h0 : (j 0).val < 1 := (j 0).isLt
  apply Fin.ext; show h.val + 1 * (j 0).val = h.val; omega
theorem slotKey_ex (i : S6x4096x256.Idx) : ∃ j, (slotR (slotKey i)).emb j = i :=
  ⟨(fun | ⟨0, _⟩ => ⟨0, Nat.zero_lt_one⟩ | ⟨1, _⟩ => i 1 | ⟨2, _⟩ => i 2 : S1x4096x256.Idx), by
    funext a
    match a with
    | ⟨0, _⟩ => apply Fin.ext; show (i 0).val + 1 * 0 = (i 0).val; omega
    | ⟨1, _⟩ => apply Fin.ext; show 0 + 1 * (i 1).val = (i 1).val; omega
    | ⟨2, _⟩ => apply Fin.ext; show 0 + 1 * (i 2).val = (i 2).val; omega⟩

def colKey (i : S4096x8192.Idx) : Fin 32 := ⟨(i 1).val / 256, Nat.div_lt_of_lt_mul (i 1).isLt⟩
theorem colKey_emb (h : Fin 32) (j : (colR h).shape.Idx) : colKey ((colR h).emb j) = h := by
  have h0 : (j 1).val < 256 := (j 1).isLt
  apply Fin.ext; show (256 * h.val + 1 * (j 1).val) / 256 = h.val; omega
theorem colKey_ex (i : S4096x8192.Idx) : ∃ j, (colR (colKey i)).emb j = i :=
  ⟨(fun | ⟨0, _⟩ => i 0 | ⟨1, _⟩ => ⟨(i 1).val % 256, Nat.mod_lt _ (by decide)⟩ : S4096x256.Idx), by
    funext a
    match a with
    | ⟨0, _⟩ => apply Fin.ext; show 0 + 1 * (i 0).val = (i 0).val; omega
    | ⟨1, _⟩ => apply Fin.ext; show 256 * ((i 1).val / 256) + 1 * ((i 1).val % 256) = (i 1).val; omega⟩

theorem slabQ_set (h : Fin 32) : (slabQ h).view.set = (slabR h).set := (View.set_reshape _ _).trans (View.set_slice_whole _ _)
theorem slotQ_set (s : Fin 6) : (slotQ s).view.set = (slotR s).set := (View.set_reshape _ _).trans (View.set_slice_whole _ _)
theorem colM_set (t : Fin 32) : (colM t).view.set = (colR t).set := View.set_slice_whole _ _
theorem rowsM_set (r : Fin 32) : (rowsM r).view.set = (rowsR r).set := View.set_slice_whole _ _

/-! ## Buffers -/

theorem rows_split (c : Dev nD) : anyBuf (F := F) cc0_stg3_0 c ⊢ bigSep Finset.univ (rowsAny (F := F) c) := by
  unfold anyBuf
  iintro ⟨%f, H⟩
  rw [pointsTo_blocks (fun r : Fin 32 => (rowsR r).set) rowsR_disjoint (keyed_cover rowsR rowOf fun i => ⟨inRow i, rowsR_cover i⟩) f]
  exact (show bigSep Finset.univ (fun r : Fin 32 => (c : Thread nD τ).loc cc0_stg3_0 ↦[(rowsR r).set]{fullShare} f) ⊢ bigSep Finset.univ (rowsAny (F := F) c) from
    bigSep_mono fun r _ => by
      unfold rowsAny; rw [rowsM_set]; show iprop((c : Thread nD τ).loc cc0_stg3_0 ↦[(rowsR r).set]{fullShare} f) ⊢ iprop(∃ f : Buf (Elt F) ((c : Thread nD τ).loc cc0_stg3_0), (c : Thread nD τ).loc cc0_stg3_0 ↦[(rowsR r).set]{fullShare} f); iintro H; iexists f; iexact H)

theorem slabs_split (c : Dev nD) : anyBuf (F := F) cc0_scratch2 c ⊢ bigSep Finset.univ (slabAny (F := F) c) := by
  unfold anyBuf
  iintro ⟨%f, H⟩
  rw [pointsTo_blocks (fun r : Fin 32 => (slabR r).set) (keyed_disjoint slabR slabKey slabKey_emb) (keyed_cover slabR slabKey slabKey_ex) f]
  exact (show bigSep Finset.univ (fun r : Fin 32 => (c : Thread nD τ).loc cc0_scratch2 ↦[(slabR r).set]{fullShare} f) ⊢ bigSep Finset.univ (slabAny (F := F) c) from
    bigSep_mono fun r _ => by
      unfold slabAny; rw [slabQ_set]; show iprop((c : Thread nD τ).loc cc0_scratch2 ↦[(slabR r).set]{fullShare} f) ⊢ iprop(∃ f : Buf (Elt F) ((c : Thread nD τ).loc cc0_scratch2), (c : Thread nD τ).loc cc0_scratch2 ↦[(slabR r).set]{fullShare} f); iintro H; iexists f; iexact H)

include m in
theorem slabs_join (c : Dev nD) : bigSep Finset.univ (slabAny (F := F) c) ⊢ anyBuf (F := F) cc0_scratch2 c := by
  have e : (slabAny (F := F) c) = fun r : Fin 32 => iprop(∃ f : Buf (Elt F) ((c : Thread nD τ).loc cc0_scratch2), (c : Thread nD τ).loc cc0_scratch2 ↦[(slabR r).set]{fullShare} f) := by
    funext r; unfold slabAny; rw [slabQ_set]
  rw [e]
  exact pointsTo_blocks_join_exists (ℓ := (c : Thread nD τ).loc cc0_scratch2) (q := fullShare) (fun r : Fin 32 => (slabR r).set) (keyed_disjoint slabR slabKey slabKey_emb)
    (keyed_cover slabR slabKey slabKey_ex) (m ((c : Thread nD τ).loc cc0_scratch2))

theorem slots_split (c : Dev nD) : anyBuf (F := F) cc0_scratch0 c ⊢ bigSep Finset.univ (slotAny (F := F) c) := by
  unfold anyBuf
  iintro ⟨%f, H⟩
  rw [pointsTo_blocks (fun r : Fin 6 => (slotR r).set) (keyed_disjoint slotR slotKey slotKey_emb) (keyed_cover slotR slotKey slotKey_ex) f]
  exact (show bigSep Finset.univ (fun r : Fin 6 => (c : Thread nD τ).loc cc0_scratch0 ↦[(slotR r).set]{fullShare} f) ⊢ bigSep Finset.univ (slotAny (F := F) c) from
    bigSep_mono fun r _ => by
      unfold slotAny; rw [slotQ_set]; show iprop((c : Thread nD τ).loc cc0_scratch0 ↦[(slotR r).set]{fullShare} f) ⊢ iprop(∃ f : Buf (Elt F) ((c : Thread nD τ).loc cc0_scratch0), (c : Thread nD τ).loc cc0_scratch0 ↦[(slotR r).set]{fullShare} f); iintro H; iexists f; iexact H)

include m in
theorem slots_join (c : Dev nD) : bigSep Finset.univ (slotAny (F := F) c) ⊢ anyBuf (F := F) cc0_scratch0 c := by
  have e : (slotAny (F := F) c) = fun r : Fin 6 => iprop(∃ f : Buf (Elt F) ((c : Thread nD τ).loc cc0_scratch0), (c : Thread nD τ).loc cc0_scratch0 ↦[(slotR r).set]{fullShare} f) := by
    funext r; unfold slotAny; rw [slotQ_set]
  rw [e]
  exact pointsTo_blocks_join_exists (ℓ := (c : Thread nD τ).loc cc0_scratch0) (q := fullShare) (fun r : Fin 6 => (slotR r).set) (keyed_disjoint slotR slotKey slotKey_emb)
    (keyed_cover slotR slotKey slotKey_ex) (m ((c : Thread nD τ).loc cc0_scratch0))

theorem blk_add (c : Dev nD) (b : Fin 32) : blkOf c b.val = addE c b := by revert c b; decide
/-- The weights are their column blocks, in the order of the steps. -/
theorem cols_eq (c : Dev nD) : argBuf m main_arg1 c = bigSep Finset.univ (homeAt m c) := by
  have h1 : bigSep Finset.univ (homeAt m c) = bigSep Finset.univ (colAt m c) := by
    rw [bigSep_univ_equiv (addE c) (colAt m c)]
    exact bigSep_congr fun b _ => by unfold homeAt; rw [blk_add]
  rw [h1]
  unfold argBuf
  rw [pointsTo_blocks (fun r : Fin 32 => (colR r).set) (keyed_disjoint colR colKey colKey_emb) (keyed_cover colR colKey colKey_ex) (m ((c : Thread nD τ).loc main_arg1))]
  exact bigSep_congr fun r _ => by unfold colAt; rw [colM_set]

/-! ## The ring of slots -/

theorem ring_in (c : Dev nD) :
    iprop(bigSep Finset.univ (slotAny (F := F) c) ∗ bigSep Finset.univ (fun s : Fin 6 => semVal ((c : Thread nD τ), .dma (wQ s)) 0) ∗ argBuf m main_arg1 c) ⊢ RingN m c 0 := by
  unfold RingN
  iintro ⟨H1, H2, H3⟩
  isplitl [H1 H2]
  · rw [show Finset.Ico 0 6 = Finset.univ.map (Fin.valEmbedding (n := 6)) from by decide, bigSep_map]
    iapply (show iprop(bigSep Finset.univ (slotAny (F := F) c) ∗ bigSep Finset.univ (fun s : Fin 6 => semVal ((c : Thread nD τ), .dma (wQ s)) 0)) ⊢ _ from
      (zip_sep _ _ _).trans (bigSep_mono fun s _ => show iprop(slotAny (F := F) c s ∗ semVal ((c : Thread nD τ), .dma (wQ s)) 0) ⊢ slotFree (F := F) c (slotOf s.val) from by
        rw [show slotOf s.val = s from by revert s; decide]; exact .rfl)) $$ [H1 H2]
    isplitl [H1] <;> iassumption
  · isplitr [H3]
    · rw [show Finset.Ico 0 0 = (∅ : Finset ℕ) from rfl, bigSep_empty]; iempintro
    · rw [cols_eq m c]; exact (show bigSep Finset.univ (homeAt m c) ⊢ bigSep (fromN 0) (homeAt m c) from by rw [fromN_zero])

theorem slot_at (c : Dev nD) (b : ℕ) (h : b ∈ Finset.Ico 32 38) : ringAt m c b = slotFree (F := F) c (slotOf b) := by
  unfold ringAt; rw [if_neg (by have := (Finset.mem_Ico.1 h).1; omega)]

theorem ring_out (c : Dev nD) :
    Ring m c 32 ⊢ iprop(anyBuf (F := F) cc0_scratch0 c ∗ bigSep Finset.univ (fun s : Fin 6 => semVal ((c : Thread nD τ), .dma (wQ s)) 0) ∗ argBuf m main_arg1 c) := by
  unfold Ring
  iintro ⟨H1, H2, H3⟩
  ihave H1' := (show bigSep (Finset.Ico 32 (32 + 6)) (ringAt m c) ⊢ iprop(bigSep Finset.univ (slotAny (F := F) c) ∗ bigSep Finset.univ (fun s : Fin 6 => semVal ((c : Thread nD τ), .dma (wQ s)) 0)) from by
    refine .trans ?_ (unzip_sep _ _ _)
    rw [bigSep_congr (Φ := ringAt m c) (Ψ := fun b => slotFree (F := F) c (slotOf b)) (fun b h => slot_at m c b h),
      ← bigSep_image_of_injOn (f := slotOf) (s := Finset.Ico 32 (32 + 6)) (by decide) (fun s => slotFree (F := F) c s),
      show (Finset.Ico 32 (32 + 6)).image slotOf = Finset.univ from by decide]
    exact .rfl) $$ H1
  icases H1' with ⟨H1, H4⟩
  isplitl [H1]
  · iapply slots_join m c $$ H1
  isplitl [H4]
  · iexact H4
  rw [cols_eq m c, ← below_end]
  iexact H2

/-! ## The semaphores of the launch -/

abbrev pQ (w : Fin 4) : DmaSem sig := ⟨w.val, by have := w.isLt; show _ < 74; omega⟩

def semE : (Fin 4 ⊕ Fin 6) ⊕ (Fin 32 ⊕ Fin 32) → DmaSem sig := Sum.elim (Sum.elim pQ wQ) (Sum.elim sndQ rcvQ)
theorem semE_bij : Function.Bijective semE := by
  constructor
  · rintro ((a | a) | (a | a)) ((b | b) | (b | b)) h <;> have h := congrArg Fin.val h <;>
      simp only [semE, Sum.elim_inl, Sum.elim_inr, pQ, wQ, sndQ, rcvQ] at h <;> have := a.isLt <;> have := b.isLt <;>
      first | omega | (have e : a = b := Fin.ext (by omega); rw [e])
  · intro q
    have hq : q.val < 74 := q.isLt
    by_cases h1 : q.val < 4
    · exact ⟨.inl (.inl ⟨q.val, h1⟩), rfl⟩
    by_cases h2 : q.val < 10
    · exact ⟨.inl (.inr ⟨q.val - 4, by omega⟩), Fin.ext (show 4 + (q.val - 4) = q.val by omega)⟩
    by_cases h3 : q.val < 42
    · exact ⟨.inr (.inl ⟨q.val - 10, by omega⟩), Fin.ext (show 10 + (q.val - 10) = q.val by omega)⟩
    · exact ⟨.inr (.inr ⟨q.val - 42, by omega⟩), Fin.ext (show 42 + (q.val - 42) = q.val by omega)⟩

theorem scoped_cells (c : Dev nD) : scopedCells sig (c : Thread nD τ) = Finset.univ.map ⟨fun q : DmaSem sig => ((c : Thread nD τ), SemLoc.dma q), fun a b h => by injection h with _ h; injection h⟩ := by
  ext ⟨⟨d, p⟩, s⟩
  rw [mem_scopedCells, Finset.mem_map]
  constructor
  · rintro ⟨h1, h2, h3⟩
    obtain rfl : p = .tc := Proc.inScope_tc.mp h2
    obtain rfl : d = c := h1
    cases s with
    | reg s => exact absurd h3 (show ¬ (SemLoc.reg (sig := sig) s).isScoped .tc = true from by clear h3 h2; revert s; decide)
    | dma q => exact ⟨q, Finset.mem_univ _, rfl⟩
  · rintro ⟨q, -, h⟩
    injection h with h1 h2
    injection h1 with h1 h3
    subst h1 h2 h3
    exact ⟨rfl, Proc.inScope_tc.mpr rfl, show (SemLoc.dma (sig := sig) q).isScoped .tc = true from by revert q; decide⟩

/-- Every counter the launch holds: the windows', the weight copies', the send and the receive ones. -/
theorem sems_eq (c : Dev nD) : (scopedSems0 (c : Thread nD τ) : sProp 𝕄)
    = iprop(((semVal ((c : Thread nD τ), .dma (winQ 0 t0)) 0 ∗ semVal ((c : Thread nD τ), .dma (winQ 1 t0)) 0
          ∗ semVal ((c : Thread nD τ), .dma (winQ 2 t0)) 0 ∗ semVal ((c : Thread nD τ), .dma (winQ 3 tN)) 0)
        ∗ bigSep Finset.univ (fun s : Fin 6 => semVal ((c : Thread nD τ), .dma (wQ s)) 0))
      ∗ bigSep Finset.univ (fun h : Fin 32 => semVal (sndC c h) 0) ∗ bigSep Finset.univ (fun h : Fin 32 => semVal (rcvC c h) 0)) := by
  unfold scopedSems0
  rw [scoped_cells, bigSep_map, bigSep_univ_equiv (Equiv.ofBijective semE semE_bij), bigSep_univ_sum, bigSep_univ_sum, bigSep_univ_sum]
  congr 2
  rw [bigSep_univ_eq_bigSepL [0, 1, 2, 3] (by decide) (by decide)]
  rfl
-- ==== Proof.Entry.lean ====
/-
# Into the kernel and out of it

The launch's buffers and counters become what the grid starts from, and what it leaves becomes them again.
-/
module

public import proofs.«01_k».proof.Proof.Parts

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The scoped buffers -/

theorem staged0 (c : Dev nD) : (bigSep Finset.univ fun s : Fin (cfg0.win 0).nbuf => iprop(∃ X, owns (c : Thread nD τ) ((cfg0.win 0).stage s) fullShare X) : sProp 𝕄)
    = anyBuf (F := F) cc0_stg0_0 c := by
  refine (bigSep_congr fun s _ => (stage_whole0 0 s).exists_owns_eq fullShare).trans ?_
  refine (bigSep_univ_eq_bigSepL [(⟨0, by decide⟩ : Fin (cfg0.win 0).nbuf)] (by decide) (by decide) _).trans ?_
  rfl
theorem staged1 (c : Dev nD) : (bigSep Finset.univ fun s : Fin (cfg0.win 1).nbuf => iprop(∃ X, owns (c : Thread nD τ) ((cfg0.win 1).stage s) fullShare X) : sProp 𝕄)
    = anyBuf (F := F) cc0_stg1_0 c := by
  refine (bigSep_congr fun s _ => (stage_whole0 1 s).exists_owns_eq fullShare).trans ?_
  refine (bigSep_univ_eq_bigSepL [(⟨0, by decide⟩ : Fin (cfg0.win 1).nbuf)] (by decide) (by decide) _).trans ?_
  rfl
theorem staged2 (c : Dev nD) : (bigSep Finset.univ fun s : Fin (cfg0.win 2).nbuf => iprop(∃ X, owns (c : Thread nD τ) ((cfg0.win 2).stage s) fullShare X) : sProp 𝕄)
    = anyBuf (F := F) cc0_stg2_0 c := by
  refine (bigSep_congr fun s _ => (stage_whole0 2 s).exists_owns_eq fullShare).trans ?_
  refine (bigSep_univ_eq_bigSepL [(⟨0, by decide⟩ : Fin (cfg0.win 2).nbuf)] (by decide) (by decide) _).trans ?_
  rfl
theorem staged3 (c : Dev nD) : (bigSep Finset.univ fun s : Fin (cfg0.win 3).nbuf => iprop(∃ X, owns (c : Thread nD τ) ((cfg0.win 3).stage s) fullShare X) : sProp 𝕄)
    = anyBuf (F := F) cc0_stg3_0 c := by
  refine (bigSep_congr fun s _ => (stage_whole0 3 s).exists_owns_eq fullShare).trans ?_
  refine (bigSep_univ_eq_bigSepL [(⟨0, by decide⟩ : Fin (cfg0.win 3).nbuf)] (by decide) (by decide) _).trans ?_
  rfl

theorem bufs_eq (c : Dev nD) : (scopedBufs (c : Thread nD τ) : sProp 𝕄)
    = iprop((anyBuf (F := F) cc0_stg0_0 c ∗ anyBuf (F := F) cc0_stg1_0 c ∗ anyBuf (F := F) cc0_stg2_0 c ∗ anyBuf (F := F) cc0_stg3_0 c)
      ∗ anyBuf (F := F) cc0_scratch0 c ∗ anyBuf (F := F) cc0_scratch2 c) := by
  rw [show (scopedBufs (c : Thread nD τ) : sProp 𝕄) = _ from Pipeline.scopedBufs_split cfgs 0 winFacts0.stage_scoped winFacts0.stage_inj stage_whole0 c]
  congr 1
  · unfold Pipeline.Dat.staging
    refine (bigSep_W0 _).trans ?_
    exact congrArg₂ _ (staged0 c) (congrArg₂ _ (staged1 c) (congrArg₂ _ (staged2 c) (staged3 c)))
  · exact scopedRest0_eq c

/-! ## The protocol's tokens of a device -/

theorem from_zero (Φ : Fin 32 → sProp 𝕄) : bigSep Finset.univ Φ = iprop(Φ 0 ∗ bigSep (fromN 1) Φ) := by
  rw [← fromN_zero]; exact bigSep_from (0 : Fin 32) Φ
theorem zero_from (Φ : Fin 32 → sProp 𝕄) : iprop(Φ 0 ∗ bigSep (fromN 1) Φ) ⊢ bigSep Finset.univ Φ := by rw [from_zero]
theorem zero_out (Φ : Fin 32 → sProp 𝕄) : bigSep Finset.univ Φ ⊢ iprop(Φ 0 ∗ bigSep (fromN 1) Φ) := by rw [from_zero]

/-- The tokens a device holds at launch, -/
def Toks (c : Fin 32) : sProp 𝕄 :=
  iprop(atPos ER (barC c) 0 ∅ 0 ∗ bigSep Finset.univ (fun d : Fin 32 => dutyTok ER (barC d) 0 c)
    ∗ bigSep (fromN 1) (fun h : Fin 32 => iprop(openTok ER (sndC c h) ∗ openTok ER (rcvC c h)))
    ∗ bigSep (fromN 1) (fun h : Fin 32 => iprop(dutyTok ER (rcvC (c + h : Fin 32) h) 0 0 ∗ dutyTok ER (sndC c h) 0 0)))
/-- and its credit. -/
def Creds (c : Fin 32) : sProp 𝕄 :=
  iprop(cred (tallyAt (barC c) () 32) ∗ bigSep (fromN 1) (fun h : Fin 32 => cred (tallyAt (rcvC c h) () N)))

theorem open_cells (κ : GSem nD τ sig → ℕ) (c : Fin 32) :
    iprop(Ctx m κ ∗ bigSep (fromN 1) (fun h : Fin 32 => iprop(openTok ER (sndC c h) ∗ openTok ER (rcvC c h)))
        ∗ bigSep (fromN 1) (fun h : Fin 32 => semVal (sndC c h) 0) ∗ bigSep (fromN 1) (fun h : Fin 32 => semVal (rcvC c h) 0))
      ⊢ iprop(|={Set.univ}=> ((bigSep (fromN 1) (fun h : Fin 32 => atPos ER (sndC c h) 0 ∅ 0) ∗ bigSep (fromN 1) (fun h : Fin 32 => reached ER (sndC c h) 0))
          ∗ (bigSep (fromN 1) (fun h : Fin 32 => atPos ER (rcvC c h) 0 ∅ 0) ∗ bigSep (fromN 1) (fun h : Fin 32 => reached ER (rcvC c h) 0)))) := by
  iintro ⟨#HC, HT, HS, HR⟩
  ihave H := (zip_sep (fromN 1) _ _) $$ [HS HR]
  · isplitl [HS]; · iexact HS
    iexact HR
  ihave H := (zip_sep (fromN 1) _ _) $$ [HT H]
  · isplitl [HT]; · iexact HT
    iexact H
  have one : ∀ h ∈ fromN 1, iprop(Ctx m κ ∗ ((openTok ER (sndC c h) ∗ openTok ER (rcvC c h)) ∗ (semVal (sndC c h) 0 ∗ semVal (rcvC c h) 0)))
      ⊢ iprop(|={Set.univ}=> ((atPos ER (sndC c h) 0 ∅ 0 ∗ reached ER (sndC c h) 0) ∗ (atPos ER (rcvC c h) 0 ∅ 0 ∗ reached ER (rcvC c h) 0))) := fun h hh => by
    iintro ⟨#HC, ⟨Ho1, Ho2⟩, ⟨Hs1, Hs2⟩⟩
    ihave Hi := (Ctx_dma m κ c h (mem_fromN.1 hh)) $$ HC
    icases Hi with ⟨#Hi1, #Hi2⟩
    imod (cell_open ER (sched m) (Set.mem_univ (κ (sndC c h)))) $$ [Ho1 Hs1] with H1
    · isplitr; · iexact Hi1
      isplitl [Ho1] <;> iassumption
    imod (cell_open ER (sched m) (Set.mem_univ (κ (rcvC c h)))) $$ [Ho2 Hs2] with H2
    · isplitr; · iexact Hi2
      isplitl [Ho2] <;> iassumption
    imodintro
    isplitl [H1] <;> iassumption
  ihave H := (bigSep_with_persistent one) $$ [H]
  · isplitr; · iexact HC
    iexact H
  imod (bigSep_fupd _ _) $$ H with H
  ihave H := (unzip_sep (fromN 1) _ _) $$ H
  icases H with ⟨H1, H2⟩
  ihave H1 := (unzip_sep (fromN 1) _ _) $$ H1
  ihave H2 := (unzip_sep (fromN 1) _ _) $$ H2
  imodintro
  isplitl [H1] <;> iassumption

theorem close_cells (κ : GSem nD τ sig → ℕ) (c : Fin 32) :
    iprop(Ctx m κ ∗ bigSep (fromN 1) (fun h : Fin 32 => atPos ER (sndC c h) 1 ∅ 0) ∗ bigSep (fromN 1) (fun h : Fin 32 => atPos ER (rcvC c h) 1 ∅ 0))
      ⊢ iprop(|={Set.univ}=> (bigSep (fromN 1) (fun h : Fin 32 => semVal (sndC c h) 0) ∗ bigSep (fromN 1) (fun h : Fin 32 => semVal (rcvC c h) 0))) := by
  iintro ⟨#HC, HS, HR⟩
  ihave H := (zip_sep (fromN 1) _ _) $$ [HS HR]
  · isplitl [HS]; · iexact HS
    iexact HR
  have one : ∀ h ∈ fromN 1, iprop(Ctx m κ ∗ (atPos ER (sndC c h) 1 ∅ 0 ∗ atPos ER (rcvC c h) 1 ∅ 0))
      ⊢ iprop(|={Set.univ}=> (semVal (sndC c h) 0 ∗ semVal (rcvC c h) 0)) := fun h hh => by
    iintro ⟨#HC, H1, H2⟩
    ihave Hi := (Ctx_dma m κ c h (mem_fromN.1 hh)) $$ HC
    icases Hi with ⟨#Hi1, #Hi2⟩
    imod (cell_close ER (sched m) (g := sndC c h) (Set.mem_univ (κ (sndC c h))) (fun hf => hf) (fun r hr => duties_later m _ r hr)) $$ [H1] with H1
    · isplitr; · iexact Hi1
      iexact H1
    imod (cell_close ER (sched m) (g := rcvC c h) (Set.mem_univ (κ (rcvC c h))) (fun hf => hf) (fun r hr => duties_later m _ r hr)) $$ [H2] with H2
    · isplitr; · iexact Hi2
      iexact H2
    imodintro
    isplitl [H1] <;> iassumption
  ihave H := (bigSep_with_persistent one) $$ [H]
  · isplitr; · iexact HC
    iexact H
  imod (bigSep_fupd _ _) $$ H with H
  imodintro
  iapply (unzip_sep (fromN 1) _ _) $$ H

theorem close_bar (κ : GSem nD τ sig → ℕ) (c : Fin 32) :
    iprop(Ctx m κ ∗ atPos ER (barC c) 1 ∅ 0) ⊢ iprop(|={Set.univ}=> (semVal (barC c) 0)) := by
  iintro ⟨#HC, H⟩
  ihave Hi := (Ctx_bar m κ c) $$ HC
  icases Hi with ⟨#Hi, -⟩
  iapply (cell_close ER (sched m) (g := barC c) (Set.mem_univ (κ (barC c))) (fun hf => hf) (fun r hr => duties_later m _ r hr))
  isplitr; · iexact Hi
  iexact H

/-! ## What the first step gives away -/

theorem subE_zero (c : Fin 32) : subE c 0 = c := by revert c; decide
theorem rows_give (c : Fin 32) :
    iprop(anyBuf (F := F) cc0_stg3_0 c ∗ bigSep (fromN 1) (fun h : Fin 32 => reached ER (rcvC c h) 0))
      ⊢ iprop(rowsAny (F := F) c c ∗ bigSep Finset.univ (fun d => barPay (F := F) d c)) := by
  iintro ⟨H, HR⟩
  ihave H := (rows_split c) $$ H
  ihave H := (show bigSep Finset.univ (rowsAny (F := F) c) ⊢ iprop(rowsAny (F := F) c (subE c 0) ∗ bigSep (fromN 1) (fun h => rowsAny (F := F) c (subE c h))) from by
    rw [bigSep_univ_equiv (subE c) (rowsAny (F := F) c)]; exact zero_out _) $$ H
  icases H with ⟨H0, H⟩
  isplitl [H0]
  · rw [subE_zero]; iexact H0
  rw [bigSep_univ_equiv (subE c) (fun d => barPay (F := F) d c)]
  iapply (zero_from _)
  isplitr
  · rw [subE_zero]; unfold barPay; rw [if_pos rfl]; iempintro
  ihave H := (zip_sep (fromN 1) _ _) $$ [H HR]
  · isplitl [H]; · iexact H
    iexact HR
  iapply (show bigSep (fromN 1) (fun h : Fin 32 => iprop(rowsAny (F := F) c (subE c h) ∗ reached ER (rcvC c h) 0)) ⊢ bigSep (fromN 1) (fun h => barPay (F := F) (subE c h) c) from
    bigSep_mono fun h hh => by
      have h1 : c ≠ subE c h := by have := mem_fromN.1 hh; revert c h; decide
      have h2 : c - subE c h = h := by clear hh h1; revert c h; decide
      unfold barPay; rw [if_neg h1, h2]; exact (show iprop(rowsAny (F := F) c (subE c h) ∗ reached ER (rcvC c h) 0) ⊢ iprop(rowsAny (F := F) c (subE c h) ∗ reached ER (rcvC c h) 0) from .rfl)) $$ H

theorem own_pack (c : Fin 32) :
    iprop(bigSep (fromN 1) (slabAny (F := F) c)
        ∗ bigSep (fromN 1) (fun h : Fin 32 => iprop(dutyTok ER (rcvC (c + h : Fin 32) h) 0 0 ∗ dutyTok ER (sndC c h) 0 0))
        ∗ bigSep (fromN 1) (fun h : Fin 32 => reached ER (sndC c h) 0))
      ⊢ bigSep (fromN 1) (OwnPkt (F := F) c) := by
  iintro ⟨H1, H2, H3⟩
  ihave H := (zip_sep (fromN 1) _ _) $$ [H2 H3]
  · isplitl [H2]; · iexact H2
    iexact H3
  ihave H := (zip_sep (fromN 1) _ _) $$ [H1 H]
  · isplitl [H1]; · iexact H1
    iexact H
  iapply (show bigSep (fromN 1) (fun h : Fin 32 => iprop(slabAny (F := F) c h ∗ ((dutyTok ER (rcvC (c + h : Fin 32) h) 0 0 ∗ dutyTok ER (sndC c h) 0 0) ∗ reached ER (sndC c h) 0)))
      ⊢ bigSep (fromN 1) (OwnPkt (F := F) c) from
    bigSep_mono fun h _ => show iprop(slabAny (F := F) c h ∗ ((dutyTok ER (rcvC (c + h : Fin 32) h) 0 0 ∗ dutyTok ER (sndC c h) 0 0) ∗ reached ER (sndC c h) 0)) ⊢ OwnPkt (F := F) c h from by
      unfold OwnPkt
      iintro ⟨H1, ⟨H2, H3⟩, H4⟩
      isplitl [H1]; · iexact H1
      isplitl [H2]; · iexact H2
      isplitl [H3] <;> iassumption) $$ H

end Cert.A2A
-- ==== Proof.Region.lean ====
/-
# The kernel's region on one device

From the launch's share of a device, through the kernel, to its result.
-/
module

public import proofs.«01_k».proof.Proof.Entry

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- What a device starts from, -/
def Start (κ : GSem nD τ sig → ℕ) (c : Fin 32) : sProp 𝕄 :=
  iprop(Ctx m κ ∗ Toks (F := F) c ∗ Creds (F := F) c ∗ owesAny (F := F) c (O₀ c)
    ∗ argBuf m main_arg0 c ∗ argBuf m main_arg1 c ∗ argBuf m main_arg2 c ∗ argBuf m main_arg3 c ∗ anyBuf (F := F) main_v1 c)
/-- and what it ends with. -/
def Fin' (c : Fin 32) : sProp 𝕄 :=
  iprop(argBuf m main_arg0 c ∗ argBuf m main_arg1 c ∗ argBuf m main_arg2 c ∗ argBuf m main_arg3 c ∗ resBuf c (outv m c) ∗ semVal (barC c) 0)

theorem start_ctx (κ : GSem nD τ sig → ℕ) (c : Fin 32) : Start m κ c ⊢ iprop(Ctx m κ ∗ Start m κ c) := by
  unfold Start
  iintro ⟨#HC, H⟩
  isplitr; · iexact HC
  isplitr; · iexact HC
  iexact H

theorem const_out (c : Fin 32) : Const m c ⊢ iprop(anyBuf (F := F) cc0_stg0_0 c ∗ anyBuf (F := F) cc0_stg1_0 c ∗ anyBuf (F := F) cc0_stg2_0 c) := by
  unfold Const owns anyBuf
  rw [show xM.view.set = Finset.univ from View.set_whole _, show sxM.view.set = Finset.univ from View.set_whole _, show swM.view.set = Finset.univ from View.set_whole _]
  iintro ⟨⟨%f, -, H0⟩, ⟨%g, -, H1⟩, ⟨%k, -, H2⟩⟩
  isplitl [H0]; · iexists f; iexact H0
  isplitl [H1]; · iexists g; iexact H1
  iexists k; iexact H2

/-- The counters of the launch that the kernel's protocol does not use. -/
def Spare (c : Fin 32) : sProp 𝕄 := iprop(slabAny (F := F) c 0 ∗ semVal (sndC c 0) 0 ∗ semVal (rcvC c 0) 0)

/-- The first step's state, once the operands are staged. -/
def Ready (c : Fin 32) : sProp 𝕄 :=
  iprop(RingN m c 0 ∗ rowsAny (F := F) c c ∗ bigSep (fromN 0) (fun d : Fin 32 => iprop(dutyTok ER (barC d) 0 c ∗ barPay (F := F) d c))
    ∗ cred (tallyAt (barC c) () 32) ∗ atPos ER (barC c) 0 ∅ 0 ∗ bigSep (fromN 1) (OwnPkt (F := F) c))

theorem ready_pre (c : Fin 32) : Ready m c ⊢ iprop((Const m c ∗ owesAny (F := F) c (O₀ c)) -∗ Pre0 m c) := by
  unfold Ready Pre0 SigSt
  iintro ⟨H1, H2, H3, H4, H5, H6⟩ ⟨HC, HO⟩
  isplitl [HC]; · iexact HC
  isplitl [H1]; · iexact H1
  isplitl [H2]; · iexact H2
  isplitl [HO H3]
  · isplitl [HO]
    · iexact HO
    · iexact H3
  isplitl [H4]; · iexact H4
  isplitl [H5] <;> iassumption

theorem enter (κ : GSem nD τ sig → ℕ) (c : Fin 32) :
    iprop(Start m κ c ∗ scopedBufs (c : Thread nD τ) ∗ scopedSems0 (c : Thread nD τ))
      ⊢ iprop(|={Set.univ}=> (StageIn m c ∗ owesAny (F := F) c (O₀ c) ∗ Ready m c ∗ GridRest (F := F) c ∗ Spare (F := F) c)) := by
  rw [bufs_eq, sems_eq]
  unfold Start Toks Creds
  iintro ⟨⟨#HC, ⟨Tb, Td, To, Tp⟩, ⟨Kb, Kr⟩, HO, A0, A1, A2, A3, R⟩, ⟨⟨B0, B1, B2, B3⟩, Bw, By⟩, ⟨⟨S0, S1, S2, S3⟩, Sw⟩, Ss, Sr⟩
  ihave Ss := (zero_out (F := F) (fun h : Fin 32 => semVal (sndC c h) 0)) $$ Ss
  icases Ss with ⟨Ss0, Ss⟩
  ihave Sr := (zero_out (F := F) (fun h : Fin 32 => semVal (rcvC c h) 0)) $$ Sr
  icases Sr with ⟨Sr0, Sr⟩
  imod (open_cells m κ c) $$ [To Ss Sr] with ⟨⟨Ps, Qs⟩, ⟨Pr, Qr⟩⟩
  · isplitr; · iexact HC
    isplitl [To]; · iexact To
    isplitl [Ss] <;> iassumption
  ihave HY := (slabs_split (F := F) c) $$ By
  ihave HY := (zero_out (F := F) (slabAny (F := F) c)) $$ HY
  icases HY with ⟨Y0, HY⟩
  ihave HP := (own_pack (F := F) c) $$ [HY Tp Qs]
  · isplitl [HY]; · iexact HY
    isplitl [Tp] <;> iassumption
  ihave HRw := (rows_give (F := F) c) $$ [B3 Qr]
  · isplitl [B3] <;> iassumption
  icases HRw with ⟨Rc, Rp⟩
  ihave HS := (zip_sep (F := F) (Finset.univ : Finset (Fin 32)) _ _) $$ [Td Rp]
  · isplitl [Td]; · iexact Td
    iexact Rp
  ihave HW := (slots_split (F := F) c) $$ Bw
  ihave HW := (ring_in m c) $$ [HW Sw A1]
  · isplitl [HW]; · iexact HW
    isplitl [Sw] <;> iassumption
  ihave HK := (zip_sep (F := F) (fromN 1) _ _) $$ [Pr Kr]
  · isplitl [Pr]; · iexact Pr
    iexact Kr
  imodintro
  isplitl [A0 A2 A3 B0 B1 B2 S0 S1 S2]
  · unfold StageIn
    isplitl [A0 B0 S0]
    · isplitl [A0]; · iexact A0
      isplitl [B0] <;> iassumption
    isplitl [A2 B1 S1]
    · isplitl [A2]; · iexact A2
      isplitl [B1] <;> iassumption
    · isplitl [A3]; · iexact A3
      isplitl [B2] <;> iassumption
  isplitl [HO]; · iexact HO
  isplitl [HW Rc HS Kb Tb HP]
  · unfold Ready
    isplitl [HW]; · iexact HW
    isplitl [Rc]; · iexact Rc
    isplitl [HS]
    · iapply (show bigSep (Finset.univ : Finset (Fin 32)) (fun d : Fin 32 => iprop(dutyTok ER (barC d) 0 c ∗ barPay (F := F) d c)) ⊢ bigSep (fromN 0) (fun d : Fin 32 => iprop(dutyTok ER (barC d) 0 c ∗ barPay (F := F) d c)) from by rw [fromN_zero]) $$ HS
    isplitl [Kb]; · iexact Kb
    isplitl [Tb] <;> iassumption
  isplitl [HK Ps R S3]
  · unfold GridRest Rest
    isplitl [HK Ps]
    · isplitl [HK]
      · iexact HK
      · iexact Ps
    isplitl [R] <;> iassumption
  unfold Spare
  isplitl [Y0]; · iexact Y0
  isplitl [Ss0] <;> iassumption

theorem leave (κ : GSem nD τ sig → ℕ) (c : Fin 32) :
    iprop(Ctx m κ ∗ Spare (F := F) c ∗ GridEnd m c ∗ StageOut m c ∗ atPos ER (barC c) 1 ∅ 0)
      ⊢ iprop(|={Set.univ}=> (Fin' m c ∗ owesAny (F := F) c 0 ∗ scopedBufs (c : Thread nD τ) ∗ scopedSems0 (c : Thread nD τ))) := by
  rw [bufs_eq, sems_eq]
  unfold Spare GridEnd StageOut
  iintro ⟨#HC, ⟨Y0, Ss0, Sr0⟩, ⟨HK, HR, Pr, HS, HO, R, B3, S3⟩, ⟨⟨A0, S0⟩, ⟨A2, S1⟩, ⟨A3, S2⟩⟩, Pb⟩
  ihave HK := (const_out m c) $$ HK
  icases HK with ⟨B0, B1, B2⟩
  ihave HR := (ring_out m c) $$ HR
  icases HR with ⟨Bw, Sw, A1⟩
  ihave HS := (unzip_sep (F := F) (fromN 1) (fun h : Fin 32 => atPos ER (sndC c h) 1 ∅ 0) (slabAny (F := F) c)) $$ HS
  icases HS with ⟨Ps, HY⟩
  ihave HY := (zero_from (F := F) (slabAny (F := F) c)) $$ [Y0 HY]
  · isplitl [Y0] <;> iassumption
  ihave HY := (slabs_join m c) $$ HY
  imod (close_cells m κ c) $$ [Ps Pr] with ⟨Ss, Sr⟩
  · isplitr; · iexact HC
    isplitl [Ps] <;> iassumption
  imod (close_bar m κ c) $$ [Pb] with Sb
  · isplitr; · iexact HC
    iexact Pb
  ihave Ss := (zero_from (F := F) (fun h : Fin 32 => semVal (sndC c h) 0)) $$ [Ss0 Ss]
  · isplitl [Ss0] <;> iassumption
  ihave Sr := (zero_from (F := F) (fun h : Fin 32 => semVal (rcvC c h) 0)) $$ [Sr0 Sr]
  · isplitl [Sr0] <;> iassumption
  imodintro
  isplitl [A0 A1 A2 A3 R Sb]
  · unfold Fin'
    isplitl [A0]; · iexact A0
    isplitl [A1]; · iexact A1
    isplitl [A2]; · iexact A2
    isplitl [A3]; · iexact A3
    isplitl [R] <;> iassumption
  isplitl [HO]; · iexact HO
  isplitl [B0 B1 B2 B3 Bw HY]
  · isplitl [B0 B1 B2 B3]
    · isplitl [B0]; · iexact B0
      isplitl [B1]; · iexact B1
      isplitl [B2] <;> iassumption
    isplitl [Bw] <;> iassumption
  isplitl [S0 S1 S2 S3 Sw]
  · isplitr [Sw]
    · isplitl [S0]; · iexact S0
      isplitl [S1]; · iexact S1
      isplitl [S2] <;> iassumption
    · iexact Sw
  isplitl [Ss] <;> iassumption

/-- The whole program of a device, at a continuation. -/
theorem wp_kernel (κ : GSem nD τ sig → ℕ) (c : Fin 32) {β : Type} (k : PUnit → Prog (TpuEff nD τ sig (Elt F) (Pipeline.Sig Λ₀ (Fin 1) fun p => (pcfgs (F := F) p).Adm) .tc) β) (K : β → sProp 𝕄) :
    iprop((iprop(boundary (c : Thread nD τ) ∗ Fin' m c ∗ owesAny (F := F) c 0) -∗ wp frame (wpE (Pipeline.defs (pcfgs (F := F)) defs₀) (Variants.lift 𝒱₀) (c : Thread nD τ) none) Set.univ (k ⟨⟩) K)
        ∗ boundary (c : Thread nD τ) ∗ Start m κ c ∗ levAts L lv)
      ⊢ wp frame (wpE (Pipeline.defs (pcfgs (F := F)) defs₀) (Variants.lift 𝒱₀) (c : Thread nD τ) none) Set.univ (.op (.customCall (Pipeline.entry 0) ()) k) K := by
  unfold boundary
  iintro ⟨Hk, ⟨HB, HS, HI⟩, HT, #HL⟩
  iapply (wp_customCall (Variants.lift 𝒱₀) (c : Thread nD τ) none Set.univ (ℓ := Pipeline.entry 0) (a := ()) (k := k) (Q := K) (Sum.inr 35) (fun u hu => by cases hu)) $$ HB
  iintro HB
  rw [Pipeline.defs_tc_entry]
  ihave HT := (start_ctx m κ c) $$ HT
  icases HT with ⟨#HC, HT⟩
  imod (enter m κ c) $$ [HT HB HS] with ⟨H1, H2, H3, H4, H5⟩
  · isplitl [HT]; · iexact HT
    isplitl [HB] <;> iassumption
  iapply (wp_fupd frame _ Set.univ _ _)
  iapply (run_grid m κ c (some (Sum.inr 35)) (fun u hu => by cases hu; exact Sum.Lex.inr (Nat.lt_succ_self _)) _)
  isplitr; · iexact HC
  isplitr; · iexact HL
  isplitl [H1]; · iexact H1
  isplitl [H2]; · iexact H2
  isplitl [H3]; · iapply (ready_pre m c) $$ H3
  isplitl [H4]; · iexact H4
  iintro ⟨G1, G2, G3⟩
  imod (leave m κ c) $$ [H5 G1 G2 G3] with ⟨J1, J2, J3, J4⟩
  · isplitr; · iexact HC
    isplitl [H5]; · iexact H5
    isplitl [G1]; · iexact G1
    isplitl [G2] <;> iassumption
  imodintro
  rw [kernelExitSpec_apply]
  isplitl [J4]; · iexact J4
  iintro J4
  isplitl [J3]; · iexact J3
  iintro J3
  iapply Hk
  isplitl [J3 J4 HI]
  · isplitl [J3]; · iexact J3
    isplitl [J4] <;> iassumption
  isplitl [J1] <;> iassumption

end Cert.A2A
-- ==== Proof.Run.lean ====
/-
# The run

The launch deals every device its share; every device runs the kernel; the final memory is read off.
-/
module

public import proofs.«01_k».proof.Proof.Region
public import Idealize.ShloMosaic.Lib.Quiescent

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The cells and the tokens -/

/-- A device and a step. -/
def JJ : Finset (Fin 32 × Fin 32) := Finset.univ.biUnion fun d : Fin 32 => (fromN 1).map ⟨fun h => (d, h), fun _ _ e => congrArg Prod.snd e⟩

def barE : Fin 32 ↪ GSem nD τ sig := ⟨fun d => barC d, fun a b h => congrArg (fun g : GSem nD τ sig => g.1.1) h⟩
def sndE : Fin 32 × Fin 32 ↪ GSem nD τ sig := ⟨fun p => sndC p.1 p.2, fun a b h => Prod.ext (congrArg (fun g : GSem nD τ sig => g.1.1) h) (by
  have h2 : sndQ a.2 = sndQ b.2 := by injection h with _ h; injection h
  have := congrArg Fin.val h2; exact Fin.ext (by simp only [sndQ] at this; omega))⟩
def rcvE : Fin 32 × Fin 32 ↪ GSem nD τ sig := ⟨fun p => rcvC p.1 p.2, fun a b h => Prod.ext (congrArg (fun g : GSem nD τ sig => g.1.1) h) (by
  have h2 : rcvQ a.2 = rcvQ b.2 := by injection h with _ h; injection h
  have := congrArg Fin.val h2; exact Fin.ext (by simp only [rcvQ] at this; omega))⟩

def barT : Fin 32 × Fin 32 ↪ GSem nD τ sig × ℕ × Fin 32 := ⟨fun p => (barC p.2, 0, p.1), fun a b h =>
  Prod.ext (congrArg (fun x : GSem nD τ sig × ℕ × Fin 32 => x.2.2) h) (congrArg (fun x : GSem nD τ sig × ℕ × Fin 32 => x.1.1.1) h)⟩
def sndT : Fin 32 × Fin 32 ↪ GSem nD τ sig × ℕ × Fin 32 := ⟨fun p => (sndC p.1 p.2, 0, 0), fun a b h =>
  sndE.injective (congrArg (fun x : GSem nD τ sig × ℕ × Fin 32 => x.1) h)⟩
theorem add_cancel' (a b h : Fin 32) (e : a + h = b + h) : a = b := by
  have := congrArg (fun x => x - h) e
  have k : ∀ a h : Fin 32, a + h - h = a := by decide
  simpa only [k] using this
def rcvT : Fin 32 × Fin 32 ↪ GSem nD τ sig × ℕ × Fin 32 := ⟨fun p => (rcvC (p.1 + p.2 : Fin 32) p.2, 0, 0), fun a b h => by
  have h1 := rcvE.injective (a₁ := (a.1 + a.2, a.2)) (a₂ := (b.1 + b.2, b.2)) (congrArg (fun x : GSem nD τ sig × ℕ × Fin 32 => x.1) h)
  injection h1 with h1 h2
  exact Prod.ext (add_cancel' _ _ b.2 (by rw [h2] at h1; exact h1)) h2⟩

def liveS : Finset (GSem nD τ sig) := Finset.univ.map barE
def dormS : Finset (GSem nD τ sig) := JJ.map sndE ∪ JJ.map rcvE
def tokS : Finset (GSem nD τ sig × ℕ × Fin 32) := Finset.univ.map barT ∪ (JJ.map rcvT ∪ JJ.map sndT)

theorem snd_rcv : Disjoint (JJ.map sndE) (JJ.map rcvE) := by
  rw [Finset.disjoint_left]
  intro g h1 h2
  obtain ⟨a, -, rfl⟩ := Finset.mem_map.1 h1
  obtain ⟨b, -, h⟩ := Finset.mem_map.1 h2
  have h2 : rcvQ b.2 = sndQ a.2 := by injection h with _ h; injection h
  have := congrArg Fin.val h2; have ha := a.2.isLt
  simp only [sndQ, rcvQ] at this; omega
theorem live_dorm : Disjoint liveS dormS := by
  rw [Finset.disjoint_left]
  intro g h1 h2
  obtain ⟨a, -, rfl⟩ := Finset.mem_map.1 h1
  rcases Finset.mem_union.1 h2 with h2 | h2 <;> obtain ⟨b, -, h⟩ := Finset.mem_map.1 h2 <;> injection h with _ h <;> cases h
theorem rcv_snd_tok : Disjoint (JJ.map rcvT) (JJ.map sndT) := by
  rw [Finset.disjoint_left]
  intro g h1 h2
  obtain ⟨a, -, rfl⟩ := Finset.mem_map.1 h1
  obtain ⟨b, -, h⟩ := Finset.mem_map.1 h2
  have h' : sndC b.1 b.2 = rcvC (a.1 + a.2 : Fin 32) a.2 := congrArg (fun x : GSem nD τ sig × ℕ × Fin 32 => x.1) h
  have h2 : sndQ b.2 = rcvQ a.2 := by injection h' with _ h; injection h
  have := congrArg Fin.val h2; have ha := b.2.isLt
  simp only [sndQ, rcvQ] at this; omega
theorem bar_dma_tok : Disjoint (Finset.univ.map barT) (JJ.map rcvT ∪ JJ.map sndT) := by
  rw [Finset.disjoint_left]
  intro g h1 h2
  obtain ⟨a, -, rfl⟩ := Finset.mem_map.1 h1
  rcases Finset.mem_union.1 h2 with h2 | h2 <;> obtain ⟨b, -, h⟩ := Finset.mem_map.1 h2 <;>
    · have h' := congrArg (fun x : GSem nD τ sig × ℕ × Fin 32 => x.1) h
      injection h' with _ h'; cases h'

theorem bigSep_JJ (Φ : Fin 32 × Fin 32 → sProp 𝕄) : bigSep JJ Φ = bigSep Finset.univ (fun d => bigSep (fromN 1) fun h => Φ (d, h)) := by
  unfold JJ
  rw [BI.bigSep_biUnion_eq _ _ _ (fun a _ b _ hne => Finset.disjoint_left.2 fun p h1 h2 => by
    obtain ⟨x, -, rfl⟩ := Finset.mem_map.1 h1
    obtain ⟨y, -, e⟩ := Finset.mem_map.1 h2
    exact hne (congrArg Prod.fst e).symm)]
  exact bigSep_congr fun d _ => by rw [bigSep_map]; rfl

/-- The protocol's ghost state, dealt. -/
theorem deal :
    iprop(bigSep Finset.univ (fun d : Fin 32 => (semVal (barC d) 0 : sProp 𝕄)) ∗ BI.own (ER (launchOf liveS dormS tokS)))
      ⊢ iprop(|={Set.univ}=> (∃ κ : GSem nD τ sig → ℕ, Ctx m κ ∗ bigSep Finset.univ (Toks (F := F)))) := by
  iintro ⟨Hv, Hu⟩
  imod (fund_launch ER (sched m) live_dorm (fun _ _ hf => hf) tokS) $$ [Hv Hu] with ⟨%κ, -, Hi, Hr, Ha, Ho, Ht⟩
  · isplitl [Hv]
    · iapply (show bigSep Finset.univ (fun d : Fin 32 => (semVal (barC d) 0 : sProp 𝕄)) ⊢ bigSep liveS (fun g => semVal g 0) from by
        unfold liveS; rw [bigSep_map]; exact .rfl) $$ Hv
    · iexact Hu
  imodintro
  iexists κ
  ihave Hi := (show bigSep (liveS ∪ dormS) (fun g => cellInv ER (sched m) (κ g) g)
      ⊢ iprop(bigSep Finset.univ (fun d : Fin 32 => cellInv ER (sched m) (κ (barC d)) (barC d))
        ∗ bigSep Finset.univ (fun d : Fin 32 => bigSep (fromN 1) fun h : Fin 32 => cellInv ER (sched m) (κ (sndC d h)) (sndC d h))
        ∗ bigSep Finset.univ (fun d : Fin 32 => bigSep (fromN 1) fun h : Fin 32 => cellInv ER (sched m) (κ (rcvC d h)) (rcvC d h))) from by
    rw [show bigSep (liveS ∪ dormS) (fun g => cellInv ER (sched m) (κ g) g) = _ from bigSep_union live_dorm,
      show bigSep dormS (fun g => cellInv ER (sched m) (κ g) g) = _ from bigSep_union snd_rcv]
    unfold liveS
    rw [bigSep_map, bigSep_map, bigSep_map, bigSep_JJ, bigSep_JJ]
    exact .rfl) $$ Hi
  icases Hi with ⟨Ib, Is, Ir⟩
  ihave Ho := (show bigSep dormS (fun g => openTok ER g)
      ⊢ iprop(bigSep Finset.univ (fun d : Fin 32 => bigSep (fromN 1) fun h : Fin 32 => openTok ER (sndC d h))
        ∗ bigSep Finset.univ (fun d : Fin 32 => bigSep (fromN 1) fun h : Fin 32 => openTok ER (rcvC d h))) from by
    rw [show bigSep dormS (fun g => openTok ER g) = _ from bigSep_union snd_rcv, bigSep_map, bigSep_map, bigSep_JJ, bigSep_JJ]
    exact .rfl) $$ Ho
  icases Ho with ⟨Os, Or⟩
  ihave Ht := (show bigSep tokS (fun x => dutyTok ER x.1 x.2.1 x.2.2)
      ⊢ iprop(bigSep Finset.univ (fun c : Fin 32 => bigSep Finset.univ fun d : Fin 32 => dutyTok ER (barC d) 0 c)
        ∗ bigSep Finset.univ (fun c : Fin 32 => bigSep (fromN 1) fun h : Fin 32 => dutyTok ER (rcvC (c + h : Fin 32) h) 0 0)
        ∗ bigSep Finset.univ (fun c : Fin 32 => bigSep (fromN 1) fun h : Fin 32 => dutyTok ER (sndC c h) 0 0)) from by
    rw [show bigSep tokS (fun x => dutyTok ER x.1 x.2.1 x.2.2) = _ from bigSep_union bar_dma_tok,
      show bigSep (JJ.map rcvT ∪ JJ.map sndT) (fun x => dutyTok ER x.1 x.2.1 x.2.2) = _ from bigSep_union rcv_snd_tok,
      bigSep_map, bigSep_map, bigSep_map, bigSep_JJ, bigSep_JJ, bigSep_univ_prod]
    exact .rfl) $$ Ht
  icases Ht with ⟨Tb, Tr, Ts⟩
  isplitl [Ib Is Ir Hr]
  · unfold Ctx
    isplitl [Ib Hr]
    · ihave Hr := (show bigSep liveS (fun g => reached ER g 0) ⊢ bigSep Finset.univ (fun d : Fin 32 => reached ER (barC d) 0) from by
        unfold liveS; rw [bigSep_map]; exact .rfl) $$ Hr
      iapply (zip_sep (Finset.univ : Finset (Fin 32)) _ _)
      isplitl [Ib]; · iexact Ib
      iexact Hr
    · ihave H := (zip_sep (Finset.univ : Finset (Fin 32)) _ _) $$ [Is Ir]
      · isplitl [Is]; · iexact Is
        iexact Ir
      iapply (show bigSep Finset.univ (fun d : Fin 32 => iprop((bigSep (fromN 1) fun h : Fin 32 => cellInv ER (sched m) (κ (sndC d h)) (sndC d h))
            ∗ (bigSep (fromN 1) fun h : Fin 32 => cellInv ER (sched m) (κ (rcvC d h)) (rcvC d h)))) ⊢ _ from
        bigSep_mono fun d _ => zip_sep (fromN 1) _ _) $$ H
  · ihave HO := (zip_sep (Finset.univ : Finset (Fin 32)) _ _) $$ [Os Or]
    · isplitl [Os]; · iexact Os
      iexact Or
    ihave HT := (zip_sep (Finset.univ : Finset (Fin 32)) _ _) $$ [Tr Ts]
    · isplitl [Tr]; · iexact Tr
      iexact Ts
    ihave H := (zip_sep (Finset.univ : Finset (Fin 32)) _ _) $$ [HO HT]
    · isplitl [HO]; · iexact HO
      iexact HT
    ihave H := (zip_sep (Finset.univ : Finset (Fin 32)) _ _) $$ [Tb H]
    · isplitl [Tb]; · iexact Tb
      iexact H
    ihave Ha := (show bigSep liveS (fun g => atPos ER g 0 ∅ 0) ⊢ bigSep Finset.univ (fun d : Fin 32 => atPos ER (barC d) 0 ∅ 0) from by
        unfold liveS; rw [bigSep_map]; exact .rfl) $$ Ha
    ihave H := (zip_sep (Finset.univ : Finset (Fin 32)) _ _) $$ [Ha H]
    · isplitl [Ha]; · iexact Ha
      iexact H
    iapply (show bigSep Finset.univ (fun c : Fin 32 => iprop(atPos ER (barC c) 0 ∅ 0 ∗ (bigSep Finset.univ fun d : Fin 32 => dutyTok ER (barC d) 0 c)
          ∗ ((bigSep (fromN 1) fun h : Fin 32 => openTok ER (sndC c h)) ∗ (bigSep (fromN 1) fun h : Fin 32 => openTok ER (rcvC c h)))
          ∗ ((bigSep (fromN 1) fun h : Fin 32 => dutyTok ER (rcvC (c + h : Fin 32) h) 0 0) ∗ (bigSep (fromN 1) fun h : Fin 32 => dutyTok ER (sndC c h) 0 0))))
        ⊢ bigSep Finset.univ (Toks (F := F)) from
      bigSep_mono fun c _ => show iprop(atPos ER (barC c) 0 ∅ 0 ∗ (bigSep Finset.univ fun d : Fin 32 => dutyTok ER (barC d) 0 c)
          ∗ ((bigSep (fromN 1) fun h : Fin 32 => openTok ER (sndC c h)) ∗ (bigSep (fromN 1) fun h : Fin 32 => openTok ER (rcvC c h)))
          ∗ ((bigSep (fromN 1) fun h : Fin 32 => dutyTok ER (rcvC (c + h : Fin 32) h) 0 0) ∗ (bigSep (fromN 1) fun h : Fin 32 => dutyTok ER (sndC c h) 0 0)))
        ⊢ Toks (F := F) c from by
        unfold Toks
        iintro ⟨H1, H2, H3, H4⟩
        isplitl [H1]; · iexact H1
        isplitl [H2]; · iexact H2
        isplitl [H3]
        · iapply (zip_sep (fromN 1) _ _) $$ H3
        · iapply (zip_sep (fromN 1) _ _) $$ H4) $$ H

/-! ## The credit of the launch -/

theorem owed_bar : (∑ d : Dev nD, owB 0) = ∑ d : Dev nD, (tallyAt (barC d) () 32 : CellTallies nD τ sig Unit) := by
  have h : ∀ (d : Fin 32) (n : ℕ), n • (tallyAt (barC d) () 1 : CellTallies nD τ sig Unit) = tallyAt (barC d) () n := fun d n => by
    induction n with
    | zero => rw [zero_smul, tallyAt_zero]
    | succ n ih => rw [succ_nsmul, ih, tallyAt_add]
  rw [Finset.sum_const, Finset.card_univ, show Fintype.card (Dev nD) = 32 from Fintype.card_fin 32]
  unfold owB
  rw [fromN_zero, ← Finset.sum_nsmul]
  exact Finset.sum_congr rfl fun d _ => h d 32

theorem creds (c : Dev nD) : (Pipeline.launchCred O₀ c : sProp 𝕄) ⊢ Creds (F := F) c := by
  rw [show (O₀ : Dev nD → CellTallies nD τ sig Unit) = fun d => owB 0 + owR d 1 from rfl,
    show (Pipeline.launchCred (fun d : Dev nD => owB 0 + owR d 1) c : sProp 𝕄) = _ from Pipeline.launchCred_add (fun _ => owB 0) (fun d => owR d 1) c]
  unfold Creds
  iintro ⟨H1, H2⟩
  isplitl [H1]
  · ihave H1 := (show (Pipeline.launchCred (fun _ : Dev nD => owB 0) c : sProp 𝕄) ⊢ cred (tallyAt (barC c) () 32) from
      Entails.of_eq (Pipeline.launchCred_of_sum _ (fun d : Dev nD => tallyAt (barC d) () 32) owed_bar (fun d g hg => by
        by_contra hne
        refine hg (Finsupp.ext fun u => ?_)
        rw [tallyAt_apply, if_neg (fun h => hne (by rw [h.1]))]; rfl) c)) $$ H1
    iexact H1
  · ihave H2 := (show (Pipeline.launchCred (fun d : Dev nD => owR d 1) c : sProp 𝕄) ⊢ bigSep (fromN 1) (fun h : Fin 32 => Pipeline.launchCred (fun d : Dev nD => tallyAt (rcvC ((d + h : Fin 32) : Dev nD) h) () N) c) from
      Entails.of_eq (Pipeline.launchCred_sum (fromN 1) (fun (h : Fin 32) (d : Dev nD) => tallyAt (rcvC ((d + h : Fin 32) : Dev nD) h) () N) c)) $$ H2
    iapply (show bigSep (fromN 1) (fun h : Fin 32 => Pipeline.launchCred (fun d : Dev nD => tallyAt (rcvC ((d + h : Fin 32) : Dev nD) h) () N) c) ⊢ bigSep (fromN 1) (fun h : Fin 32 => (cred (tallyAt (rcvC c h) () N) : sProp 𝕄)) from
      bigSep_mono fun h _ => Pipeline.launchCred_tallyAt (.dma (rcvQ h)) (fun d : Fin 32 => d + h) (fun d : Fin 32 => d - h) (by revert h; decide) (by revert h; decide) () N c) $$ H2

/-! ## The segment and the launch -/

abbrev adm : (p : Fin 1) → (pcfgs (F := F) p).Adm := fun p => (cfgs p).toPCfg_adm

/-- What a device starts from. -/
def T₀ (c : Dev nD) : sProp 𝕄 := iprop(∃ κ : GSem nD τ sig → ℕ, Start m κ c)

/-- The data of the pipeline library's own record, of which this proof uses none. -/
def pdats (p : Fin 1) (c : Dev nD) : Pipeline.Dat τ (Elt F) Unit ℕ UU ℕ (Pipeline.pin (pcfgs (F := F)) adm p) c where
  A := fun w => m (((Pipeline.pin (pcfgs (F := F)) adm p).win w).arr.view.loc c.tc)
  after := Pipeline.Dat.unnamed
  Φ := fun _ => iprop(emp)
  q := fun _ => fullShare
  owed := fun _ => 0

/-- The one segment of @main: the kernel. -/
def seg : Pipeline.HostSeg (Name := ℕ) (U := UU) (pcfgs (F := F)) defs₀ 𝒱₀ L lv where
  prog := Prog.lift (.customCall (Pipeline.entry 0) ())
  pre := T₀ m
  post := fun c => iprop(Fin' m c ∗ owesAny c 0)
  run := fun c β k K => by
    unfold T₀
    iintro ⟨Hk, Hb, ⟨%κ, HS⟩, Hl⟩
    iapply (wp_kernel m κ c k K)
    isplitl [Hk]
    · iintro H; iapply Hk; iexact H
    isplitl [Hb]; · iexact Hb
    isplitl [HS]; · iexact HS
    iexact Hl

def segs : List (Pipeline.Seg (pcfgs (F := F)) adm (pdats m) () defs₀ 𝒱₀ L lv) := [.host (seg m)]

theorem main_eq (c : Dev nD) : main (F := F) c = Pipeline.Seg.run (segs m) := rfl

def u₀ : UU :=
  (initOf (Pipeline.cells (Pipeline.pin (pcfgs (F := F)) adm) cellOf_inj) (Pipeline.launchToks (Pipeline.pin (pcfgs (F := F)) adm) cellOf_inj),
    (launchOf liveS dormS tokS, 1))

/-- The ghost state lies with device 0 until the launch deals it. -/
def G (c : Dev nD) : sProp 𝕄 := if c = 0 then iprop(BI.own (ER (launchOf liveS dormS tokS))) else iprop(emp)

theorem G_zero : G (F := F) 0 = BI.own (ER (launchOf liveS dormS tokS)) := if_pos rfl

theorem G_in : (BI.own (ER (launchOf liveS dormS tokS)) : sProp 𝕄) ⊢ bigSep Finset.univ (G (F := F)) := by
  rw [from_zero, G_zero, show bigSep (fromN 1) (G (F := F)) = iprop(emp) from
    (bigSep_congr (fun d hd => if_neg (by revert d; decide))).trans (bigSep_emp_const _)]
  iintro H
  isplitl [H]
  · iexact H
  · exact .rfl

theorem G_out : bigSep Finset.univ (G (F := F)) ⊢ (BI.own (ER (launchOf liveS dormS tokS)) : sProp 𝕄) := by
  rw [from_zero, G_zero]
  iintro ⟨H, -⟩
  iexact H

theorem args_in (c : Dev nD) : (unscopedBufs c (fun b => m (c.tc.loc b)) : sProp 𝕄)
    ⊢ iprop(argBuf m main_arg0 c ∗ argBuf m main_arg1 c ∗ argBuf m main_arg2 c ∗ argBuf m main_arg3 c ∗ anyBuf (F := F) main_v1 c) := by
  rw [Pipeline.unscopedBufs_split cfgs 0 winFacts0.arr_unscoped winFacts0.arr_inj c (fun b => m (c.tc.loc b)), bigSep_W0, unscopedRest0_eq]
  unfold argBuf anyBuf
  iintro ⟨⟨H0, H2, H3, H4⟩, H1⟩
  isplitl [H0]; · iexact H0
  isplitl [H1]; · iexact H1
  isplitl [H2]; · iexact H2
  isplitl [H3]; · iexact H3
  iexists _
  iexact H4

theorem bar_in (c : Dev nD) : (unscopedSems0 c : sProp 𝕄) = semVal (barC c) 0 := by
  unfold unscopedSems0
  rw [show (Finset.univ.filter fun sm : SemLoc sig => ¬ sm.isScoped .tc) = {SemLoc.reg barrier0} from by decide, bigSep_singleton]

theorem res_out (c : Dev nD) : resBuf c (outv m c) ⊢ (c.tc.loc main_v1 ↦[Finset.univ]{fullShare} (outv m c : Buf (Elt F) (c.tc.loc main_v1)) : sProp 𝕄) := by
  unfold resBuf owns
  iintro ⟨%f, %hf, H⟩
  have e : f = outv m c := (View.read_whole _ f).symm.trans hf
  subst e
  rw [show (Memref.whole main_v1 : Memref sig .tc .hbm S4096x256 .f32).view.set = Finset.univ from View.set_whole _]
  iexact H

variable (ρ : Dev nD → PrngReg)

theorem init :
    iprop((bigSep Finset.univ fun c : Dev nD => iprop(unscopedBufs c (fun b => m (c.tc.loc b)) ∗ unscopedSems0 c
          ∗ owes c.tc (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m (c.tc.loc b)) ∗ unscopedSems0 c
        ∗ owes c.tc (O₀ c) ∅ ∗ Pipeline.launchCred O₀ c ∗ prngReg c (ρ c) ∗ G (F := F) c)
      ⊢ iprop((semVal (barC c) 0 ∗ G (F := F) c) ∗ (Creds (F := F) c ∗ owesAny c (O₀ c) ∗ argBuf m main_arg0 c ∗ argBuf m main_arg1 c ∗ argBuf m main_arg2 c ∗ argBuf m main_arg3 c
          ∗ anyBuf (F := F) main_v1 c)) := by
    rw [bar_in]
    iintro ⟨HB, Hs, HO, HC, -, HG⟩
    ihave HB := (args_in m c) $$ HB
    ihave HC := (creds (F := F) c) $$ HC
    isplitl [Hs HG]
    · isplitl [Hs]; · iexact Hs
      iexact HG
    isplitl [HC]; · iexact HC
    isplitl [HO]
    · unfold owesAny; iexists ∅; iexact HO
    iexact HB
  iintro ⟨H, -⟩
  ihave H := (show _ ⊢ bigSep Finset.univ (fun c : Fin 32 => iprop((semVal (barC c) 0 ∗ G (F := F) c) ∗ (Creds (F := F) c ∗ owesAny c (O₀ c) ∗ argBuf m main_arg0 c ∗ argBuf m main_arg1 c ∗ argBuf m main_arg2 c ∗ argBuf m main_arg3 c
          ∗ anyBuf (F := F) main_v1 c))) from bigSep_mono fun c _ => hcore c) $$ H
  ihave H := (unzip_sep (Finset.univ : Finset (Fin 32)) _ _) $$ H
  icases H with ⟨H, HR⟩
  ihave H := (unzip_sep (Finset.univ : Finset (Fin 32)) _ _) $$ H
  icases H with ⟨Hs, HG⟩
  ihave HG := G_out $$ HG
  imod (deal m) $$ [Hs HG] with ⟨%κ, #HX, HT⟩
  · isplitl [Hs]; · iexact Hs
    iexact HG
  imodintro
  ihave H := (zip_sep (Finset.univ : Finset (Fin 32)) _ _) $$ [HT HR]
  · isplitl [HT]; · iexact HT
    iexact HR
  iapply (bigSep_with_persistent (R := Ctx m κ) (S := (Finset.univ : Finset (Fin 32))) (Φ := fun c : Fin 32 => iprop(Toks (F := F) c ∗ (Creds (F := F) c ∗ owesAny c (O₀ c) ∗ argBuf m main_arg0 c ∗ argBuf m main_arg1 c ∗ argBuf m main_arg2 c
      ∗ argBuf m main_arg3 c ∗ anyBuf (F := F) main_v1 c))) (Ψ := T₀ m) (fun c _ => by
    unfold T₀ Start
    iintro ⟨#HX, HT, HC, HR⟩
    iexists κ
    isplitr; · iexact HX
    isplitl [HT]; · iexact HT
    isplitl [HC]; · iexact HC
    iexact HR))
  isplitr; · iexact HX
  iexact H

set_option backward.isDefEq.respectTransparency.types false in
/-- THE RUN. -/
theorem run_main : θ_run defs (onTc (τ := τ) (main (F := F))) ⟨m, fun _ => 0, ρ⟩
    (fun r => (∀ c : Dev nD, r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_v1) = outv m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply G_in
      iexact HX)
    (T₀ := T₀ m) (Tₙ := Fin' m)
    (hch := ⟨fun c => .rfl, fun c => .rfl⟩)
    (hinit := init m ρ)
    (QY := fun c s => (s.mem (c.tc.loc main_arg0) = m (c.tc.loc main_arg0) ∧ s.mem (c.tc.loc main_arg1) = m (c.tc.loc main_arg1)
        ∧ s.mem (c.tc.loc main_arg2) = m (c.tc.loc main_arg2) ∧ s.mem (c.tc.loc main_arg3) = m (c.tc.loc main_arg3)
        ∧ s.mem (c.tc.loc main_v1) = outv m c) ∧ s.sem (barC c) = 0)
    (hfin := fun c s' => by
      unfold Fin' argBuf
      iintro ⟨⟨H0, H1, H2, H3, Hr, Hb⟩, HSI⟩
      icombine HSI H0 gives %h0
      icombine HSI H1 gives %h1
      icombine HSI H2 gives %h2
      icombine HSI H3 gives %h3
      ihave Hr := (res_out m c) $$ Hr
      icombine HSI Hr gives %hr
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ hr⟩, by simpa using hb⟩
      iexact HSI)
    (hQ := fun s h hs => ⟨fun c => (h c).1, sem_eq_zero hs fun c sm hu => by
      have e : sm = SemLoc.reg barrier0 := by revert sm; decide
      subst e
      exact (h c).2⟩)

end Cert.A2A
-- ==== Proof.RefEnd.lean ====
/-
# The reference's end

The reference's result array after its run, entry by entry.
-/
module

public import proofs.«01_k».proof.Proof.Gen.ReferenceIdeal.Value
public import Idealize.ShloMosaic.Lib.Pipeline.ValueKit
public import Idealize.ShloMosaic.Lib.Pointwise
public import Idealize.ShloMosaic.Lib.Pipeline.ReadBack

@[expose] public section

noncomputable section

open Idealize.ShloMosaic Idealize.ShloMosaic.TcCoe Idealize.SL.Sem
open Idealize.ShloMosaic.Pipeline (Dat)

namespace Cert.A2AValue

/-- A row by a column, scaled, cut off below at zero. -/
def entry (x w : Fin 4096 → EReal) (sx sw : EReal) : EReal := max ((∑ k, x k * w k) * (sx * sw)) 0

end Cert.A2AValue

namespace Cert.RefEnd

open Cert.ReferenceIdeal Cert.ReferenceIdeal.Gen Cert.ReferenceIdeal.Value Cert.A2AValue

/-- The body's value at an entry. -/
theorem pay_apply (x : Vec Ideal S4096x4096 .fp8e4m3) (w : Vec Ideal S4096x8192 .f32) (sx sw : Elt Ideal .f32) (j : S4096x8192.Idx) :
    k0_pay1 (F := Ideal) x w sx sw j = entry (fun k => x (ix2 (j 0) k)) (fun k => w (ix2 k (j 1))) sx sw := by
  pointwise [k0_pay1, entry]

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0] ∧ win0_3.index t = ![0]
    ∧ win0_4.index t = ![0, 0] :=
  (by decide +kernel : ∀ t : Fin grid0.N, _)

theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg1) := by
  blk_ext! [iblk, V, idx t0_0]
theorem iblk2 (c : Dev nD) : iblk m c 2 t0_0 = m ((c : Thread nD τ).loc main_arg2) := by
  blk_ext! [iblk, V, idx t0_0]
theorem iblk3 (c : Dev nD) : iblk m c 3 t0_0 = m ((c : Thread nD τ).loc main_arg3) := by
  blk_ext! [iblk, V, idx t0_0]

/-- The whole result. -/
def full (c : Dev nD) : Vec Ideal S4096x8192 .f32 := fun j =>
  entry (fun k => m ((c : Thread nD τ).loc main_arg0) (ix2 (j 0) k)) (fun k => m ((c : Thread nD τ).loc main_arg1) (ix2 k (j 1)))
    (m ((c : Thread nD τ).loc main_arg2) (ix1 0)) (m ((c : Thread nD τ).loc main_arg3) (ix1 0))

theorem final (c : Dev nD) : (dats m 0 c).arrAt 4 cfg0.N = full m c := by
  refine (dats m 0 c).arrAt_eq_of_after_last 4 t0_0 (by decide +kernel) _ fun j => ?_
  blk_simp
  rw [after0_4]
  unfold outsAt0
  frame_out
  rw [iblk0, iblk1, iblk2, iblk3]
  have one : ∀ i : S1.Idx, i = ix1 0 := fun i => funext fun a => Fin.ext (by revert a i; decide)
  rw [read_unread_whole, read_unread_whole, read_unread_whole, read_unread_whole, one (Shape.Idx.first _)]
  exact pay_apply _ _ _ _ j

end Cert.RefEnd

end
-- ==== Proof.Value.lean ====
/-
# The value

Every device's result is its column block of the reference's.
-/
module

public import proofs.«01_k».proof.Defs
public import proofs.«01_k».proof.Proof.Same
public import proofs.«01_k».proof.Proof.Run
public import proofs.«01_k».proof.Proof.RefEnd

@[expose] public section

noncomputable section

open Idealize.ShloMosaic Idealize.ShloMosaic.TcCoe Idealize.SL.Sem

namespace Cert.A2AValue

open Cert.KernelIdeal Cert.KernelIdeal.Gen Cert.A2A

/-- The kernel body's value at an entry. -/
theorem pay_apply (sx sw : Elt Ideal .f32) (x : Vec Ideal S128x4096 .fp8e4m3) (w : Vec Ideal S1x4096x256 .f32) (j : S128x256.Idx) :
    k0_pay2 (F := Ideal) sx sw x w j = entry (fun k => x (ix2 (j 0) k)) (fun k => w (ix3 0 k (j 1))) sx sw := by
  pointwise [k0_pay2, entry]

variable (m : (ℓ : Loc nD τ sig) → Buf (Elt Ideal) ℓ)

/-- A weight of column block `t`, -/
theorem wv_apply (c : Dev nD) (t : Fin 32) (k : Fin 4096) (l : Fin 256) :
    wv m c t (ix2 k l) = m ((c : Thread nD τ).loc main_arg1) (ix2 k ⟨256 * t.val + l.val, by have := t.isLt; have := l.isLt; omega⟩) := by
  refine congrArg (m ((c : Thread nD τ).loc main_arg1)) (funext fun a => Fin.ext ?_)
  match a with
  | ⟨0, _⟩ => show 0 + 1 * k.val = k.val; omega
  | ⟨1, _⟩ => show 256 * t.val + 1 * l.val = 256 * t.val + l.val; omega

/-- and the block's index by its own and by the slot's shape. -/
theorem flat (k : Fin 4096) (l : Fin 256) :
    (Shape.reshapeEquiv squeezes_S1x4096x256_S4096x256.numel_eq).symm (ix3 0 k l : S1x4096x256.Idx) = (ix2 k l : S4096x256.Idx) := by
  rw [Equiv.symm_apply_eq]
  refine Eq.symm ((Shape.reshapeEquiv_cons_one (n := 2) (d := ![4096, 256]) squeezes_S1x4096x256_S4096x256.numel_eq (ix2 k l)).trans ?_)
  funext a
  match a with
  | ⟨0, _⟩ => rfl
  | ⟨1, _⟩ => rfl
  | ⟨2, _⟩ => rfl

/-- The result of device `c` by entries: row block `d` comes of device `d`'s arguments. -/
theorem outv_apply (c : Dev nD) (j : S4096x256.Idx) (d : Dev nD) (hd : rowOf j = d) :
    outv m c j = entry (fun k => m ((d : Thread nD τ).loc main_arg0) (ix2 ⟨(j 0).val % 128, Nat.mod_lt _ (by decide)⟩ k))
      (fun k => m ((d : Thread nD τ).loc main_arg1) (ix2 k ⟨256 * c.val + (j 1).val, by
        have h1 : c.val < 32 := c.isLt
        have h2 : (j 1).val < 256 := (j 1).isLt
        omega⟩))
      (m ((d : Thread nD τ).loc main_arg2) (ix1 0)) (m ((d : Thread nD τ).loc main_arg3) (ix1 0)) := by
  subst hd
  unfold outv tile
  rw [pay_apply]
  have e : i1 = ix1 0 := by decide
  rw [e]
  unfold entry
  have hw : ∀ k : Fin 4096, wv m (rowOf j) c ((Shape.reshapeEquiv squeezes_S1x4096x256_S4096x256.numel_eq).symm (ix3 0 k (inRow j 1) : S1x4096x256.Idx))
      = m (((rowOf j : Dev nD) : Thread nD τ).loc main_arg1) (ix2 k ⟨256 * c.val + (j 1).val, by
        have h1 : c.val < 32 := c.isLt
        have h2 : (j 1).val < 256 := (j 1).isLt
        omega⟩) := fun k =>
    (congrArg (wv m (rowOf j) c) (flat k (inRow j 1))).trans (wv_apply m (rowOf j) c k (j 1))
  congr 3
  exact funext fun k => congrArg₂ _ rfl (hw k)

/-- Every device's result is its block of the reference's. -/
theorem block_eq (m' : (ℓ : Loc Cert.ReferenceIdeal.nD Cert.ReferenceIdeal.τ Cert.ReferenceIdeal.sig) → Buf (Elt Ideal) ℓ)
    (h : ∀ c : Dev nD,
      m ((c : Thread nD τ).loc main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c : Thread nD τ).loc main_arg1) = m' (((0 : Dev Cert.ReferenceIdeal.nD).tc : Thread Cert.ReferenceIdeal.nD Cert.ReferenceIdeal.τ).loc Cert.ReferenceIdeal.main_arg1)
      ∧ m ((c : Thread nD τ).loc main_arg2) = m' (((0 : Dev Cert.ReferenceIdeal.nD).tc : Thread Cert.ReferenceIdeal.nD Cert.ReferenceIdeal.τ).loc Cert.ReferenceIdeal.main_arg2)
      ∧ m ((c : Thread nD τ).loc main_arg3) = m' (((0 : Dev Cert.ReferenceIdeal.nD).tc : Thread Cert.ReferenceIdeal.nD Cert.ReferenceIdeal.τ).loc Cert.ReferenceIdeal.main_arg3))
    (c : Dev nD) : outv m c = Layout.block ⟨2, ![4096, 256]⟩ ⟨2, ![4096, 8192]⟩ 1 32 c (Cert.RefEnd.full m' 0) := by
  funext j
  have h0 : (j 0).val < 4096 := (j 0).isLt
  rw [outv_apply m c j _ rfl, Layout.block_apply]
  obtain ⟨h1, h2, h3, h4⟩ := h (rowOf j)
  rw [h1, h2, h3, h4]
  unfold Cert.RefEnd.full
  congr 1
  · funext k
    rw [Layout.block_apply]
    refine congrArg _ (funext fun a => Fin.ext ?_)
    match a with
    | ⟨0, _⟩ => show (j 0).val / 128 * 128 + (j 0).val % 128 = (j 0).val; omega
    | ⟨1, _⟩ => rfl
  · funext k
    refine congrArg _ (funext fun a => Fin.ext ?_)
    match a with
    | ⟨0, _⟩ => rfl
    | ⟨1, _⟩ => show 256 * c.val + (j 1).val = c.val * 256 + (j 1).val; omega

end Cert.A2AValue

namespace Cert.Proof

open Cert.KernelIdeal Cert.KernelIdeal.Gen

theorem frame_kernel : Cert.quiescent_Kernel := fun m ρ _ => by
  rw [Cert.Same.defs_eq, Cert.Same.main_eq]
  exact (θ_run Cert.KernelIdeal.defs _ _).mono (fun r h => ⟨fun c => ⟨(h.1 c).1, (h.1 c).2.1, (h.1 c).2.2.1, (h.1 c).2.2.2.1⟩, h.2⟩)
    (Cert.A2A.run_main (F := Bits) m ρ)

theorem frame_ideal : Cert.quiescent_KernelIdeal := fun m ρ _ =>
  (θ_run Cert.KernelIdeal.defs _ _).mono (fun r h => ⟨fun c => ⟨(h.1 c).1, (h.1 c).2.1, (h.1 c).2.2.1, (h.1 c).2.2.2.1⟩, h.2⟩)
    (Cert.A2A.run_main m ρ)

theorem algebraic : Cert.algebraic_KernelIdeal_ReferenceIdeal := fun m ρ m' ρ' _ h =>
  ⟨Cert.RefEnd.full m' 0,
    (θ_run Cert.KernelIdeal.defs _ _).mono (fun r k c => ⟨(k.1 c).2.2.2.2.trans (Cert.A2AValue.block_eq m m' h c),
        (k.1 c).1, (k.1 c).2.1, (k.1 c).2.2.1, (k.1 c).2.2.2.1⟩)
      (Cert.A2A.run_main m ρ),
    (θ_run Cert.ReferenceIdeal.defs _ _).mono (fun r k => ⟨(k 0).1.trans (Cert.RefEnd.final m' 0), (k 0).2⟩)
      (Cert.ReferenceIdeal.Value.run_blocks m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
